-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x128 : Shape := ⟨2, ![1024, 128]⟩
abbrev S1024 : Shape := ⟨1, ![1024]⟩
abbrev S128x256 : Shape := ⟨2, ![128, 256]⟩
abbrev S256 : Shape := ⟨1, ![256]⟩
abbrev S256x1000 : Shape := ⟨2, ![256, 1000]⟩
abbrev S1000x256 : Shape := ⟨2, ![1000, 256]⟩
abbrev S256x100000 : Shape := ⟨2, ![256, 100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S256x1000 : S_.BroadcastsInDim S256x1000 (![] : Fin 0 → Fin S256x1000.rank)
  reducesTo_S256x1000_S_d0_1 : S256x1000.ReducesTo [0, 1] S_
  bcast_S_S256x100000 : S_.BroadcastsInDim S256x100000 (![] : Fin 0 → Fin S256x100000.rank)
  reducesTo_S256x100000_S_d0_1 : S256x100000.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x100000 .f32) (main_arg7 : FVec F S256 .f32) (main_v12 : IVec S_ 1) (main_v15 : IVec S256x1000 1) (main_c_5 : IVec S_ 1) : IVec S_ 1 :=
  let main_v16 : IVec S_ 1 := (fun x v => Host.reduce IntOp.andi x v reducesTo_S256x1000_S_d0_1 h_S_) main_v15 main_c_5
  let main_v17 : IVec S_ 1 := andi main_v12 main_v16
  let main_v18 : FVec F S256x100000 .f32 := Host.absf main_arg6
  let main_cst_6 : FVec F S_ .f32 := constant S_ .f32 0x7F800000#32
  let main_v19 : FVec F S256x100000 .f32 := broadcastInDim S256x100000 ![] bcast_S_S256x100000 main_cst_6
  let main_v20 : IVec S256x100000 1 := cmpf .olt main_v18 main_v19
  let main_c_7 : IVec S_ 1 := constantI S_ 1 1#1
  let main_v21 : IVec S_ 1 := (fun x v => Host.reduce IntOp.andi x v reducesTo_S256x100000_S_d0_1 h_S_) main_v20 main_c_7
  let main_v22 : IVec S_ 1 := andi main_v17 main_v21
  let main_v23 : FVec F S256 .f32 := Host.absf main_arg7
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  main_v27

def fn {F : FTy → Type} [FloatOps F] (main_arg0 : FVec F S1024x128 .f32) (main_arg1 : FVec F S1024 .f32) (main_arg2 : FVec F S128x256 .f32) (main_arg3 : FVec F S256 .f32) (main_arg4 : FVec F S256x1000 .f32) (main_arg5 : FVec F S1000x256 .f32) (main_arg6 : FVec F S256x100000 .f32) (main_arg7 : FVec F S256 .f32) (main_arg8 : IVec S1024 32) (main_arg9 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg8 main_v0
  let main_c_0 : IVec S_ 32 := constantI S_ 32 1000#32
  let main_v2 : IVec S1024 32 := broadcastInDim S1024 ![] bcast_S_S1024 main_c_0
  let main_v3 : IVec S1024 1 := cmpi .slt main_arg8 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg9 main_v6
  let main_c_3 : IVec S_ 32 := constantI S_ 32 100000#32
  let main_v8 : IVec S1024 32 := broadcastInDim S1024 ![] bcast_S_S1024 main_c_3
  let main_v9 : IVec S1024 1 := cmpi .slt main_arg9 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_v13 : FVec F S256x1000 .f32 := Host.absf main_arg4
  let main_cst : FVec F S_ .f32 := constant S_ .f32 0x7F800000#32
  let main_v14 : FVec F S256x1000 .f32 := broadcastInDim S256x1000 ![] bcast_S_S256x1000 main_cst
  let main_v15 : IVec S256x1000 1 := cmpf .olt main_v13 main_v14
  let main_c_5 : IVec S_ 1 := constantI S_ 1 1#1
  fn_part1 (F := F) main_arg6 main_arg7 main_v12 main_v15 main_c_5
-- ==== Kernel.lean ====
abbrev S1024x128 : Shape := ⟨2, ![1024, 128]⟩
abbrev S1024 : Shape := ⟨1, ![1024]⟩
abbrev S128x256 : Shape := ⟨2, ![128, 256]⟩
abbrev S256 : Shape := ⟨1, ![256]⟩
abbrev S256x1000 : Shape := ⟨2, ![256, 1000]⟩
abbrev S1000x256 : Shape := ⟨2, ![1000, 256]⟩
abbrev S256x100000 : Shape := ⟨2, ![256, 100000]⟩
abbrev S_ : Shape := ⟨0, ![]⟩
abbrev S256x1024 : Shape := ⟨2, ![256, 1024]⟩
abbrev S1024x256 : Shape := ⟨2, ![1024, 256]⟩
abbrev S1x256 : Shape := ⟨2, ![1, 256]⟩
abbrev S256x1 : Shape := ⟨2, ![256, 1]⟩
abbrev S1024x1 : Shape := ⟨2, ![1024, 1]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 23
  | .vmem => 20
  | .smem => 0
  | _ => 0

abbrev bufTy : (tb : Table) → Fin (tcTables nBuf tb) → BufTy
  | .hbm, ⟨0, _⟩ => ⟨S1024x128, .f32⟩
  | .hbm, ⟨1, _⟩ => ⟨S1024, .f32⟩
  | .hbm, ⟨2, _⟩ => ⟨S128x256, .f32⟩
  | .hbm, ⟨3, _⟩ => ⟨S256, .f32⟩
  | .hbm, ⟨4, _⟩ => ⟨S256x1000, .f32⟩
  | .hbm, ⟨5, _⟩ => ⟨S1000x256, .f32⟩
  | .hbm, ⟨6, _⟩ => ⟨S256x100000, .f32⟩
  | .hbm, ⟨7, _⟩ => ⟨S256, .f32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S_, .f32⟩
  | .hbm, ⟨12, _⟩ => ⟨S256x1024, .f32⟩
  | .hbm, ⟨13, _⟩ => ⟨S_, .i32⟩
  | .hbm, ⟨14, _⟩ => ⟨S_, .f32⟩
  | .hbm, ⟨15, _⟩ => ⟨S1024x256, .f32⟩
  | .hbm, ⟨16, _⟩ => ⟨S1x256, .f32⟩
  | .hbm, ⟨17, _⟩ => ⟨S256x1, .f32⟩
  | .hbm, ⟨18, _⟩ => ⟨S1024x1, .i32⟩
  | .hbm, ⟨19, _⟩ => ⟨S1024x1, .i32⟩
  | .hbm, ⟨20, _⟩ => ⟨S1024x1, .f32⟩
  | .hbm, ⟨21, _⟩ => ⟨S1024x1, .f32⟩
  | .hbm, ⟨22, _⟩ => ⟨S1024x1, .f32⟩
  | .local _ .vmem, ⟨0, _⟩ => ⟨S1024x128, .f32⟩
  | .local _ .vmem, ⟨1, _⟩ => ⟨S1024x1, .f32⟩
  | .local _ .vmem, ⟨2, _⟩ => ⟨S128x256, .f32⟩
  | .local _ .vmem, ⟨3, _⟩ => ⟨S1x256, .f32⟩
  | .local _ .vmem, ⟨4, _⟩ => ⟨S256x1024, .f32⟩
  | .local _ .vmem, ⟨5, _⟩ => ⟨S1024x256, .f32⟩
  | .local _ .vmem, ⟨6, _⟩ => ⟨S256x1, .f32⟩
  | .local _ .vmem, ⟨7, _⟩ => ⟨S1024x1, .i32⟩
  | .local _ .vmem, ⟨8, _⟩ => ⟨S1024x1, .i32⟩
  | .local _ .vmem, ⟨9, _⟩ => ⟨S256x1024, .f32⟩
  | .local _ .vmem, ⟨10, _⟩ => ⟨S256x1024, .f32⟩
  | .local _ .vmem, ⟨11, _⟩ => ⟨S1024x1, .f32⟩
  | .local _ .vmem, ⟨12, _⟩ => ⟨S1024x1, .f32⟩
  | .local _ .vmem, ⟨13, _⟩ => ⟨S1024x256, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x1, .f32⟩
  | .local _ .vmem, ⟨18, _⟩ => ⟨S1024x1, .f32⟩
  | .local _ .vmem, ⟨19, _⟩ => ⟨S2x1024x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![99], ![false]⟩

def k0_cond2 (i : grid0.Coords) : BitVec 1 :=
  let arg0 : BitVec 32 := BitVec.ofNat 32 (i 0).val
  let c98_i32 : BitVec 32 := 98#32
  let v3 : BitVec 1 := Scalar.cmpi .slt arg0 c98_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c2_i32 : BitVec 32 := 2#32
  let c0_i32_12 : BitVec 32 := 0#32
  let v25 : BitVec 1 := Scalar.cmpi .eq c2_i32 c0_i32_12
  let c1_i32_13 : BitVec 32 := 1#32
  let v26 : BitVec 32 := Scalar.select v25 c1_i32_13 c2_i32
  let v27 : BitVec 32 := Scalar.remsi arg0 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let v35 : Index := Scalar.indexCast v34
  let c0_17 : Index := 0#32
  let c0_18 : Index := 0#32
  ![v35.toNat, 0, 0]
def k0_cond3 (i : grid0.Coords) : BitVec 1 :=
  let arg0 : BitVec 32 := BitVec.ofNat 32 (i 0).val
  let c1_i32_3 : BitVec 32 := 1#32
  let v13 : BitVec 1 := Scalar.cmpi .sge arg0 c1_i32_3
  let c98_i32_4 : BitVec 32 := 98#32
  let v14 : BitVec 1 := Scalar.cmpi .slt arg0 c98_i32_4
  let v15 : BitVec 1 := Scalar.andi v13 v14
  let v16 : BitVec 32 := Scalar.extui v15
  let c0_i32_5 : BitVec 32 := 0#32
  let v17 : BitVec 1 := Scalar.cmpi .ne v16 c0_i32_5
  v17

def k0_off2 (i : grid0.Coords) : Fin 3 → Nat :=
  let arg0 : BitVec 32 := BitVec.ofNat 32 (i 0).val
  let c1_i32_8 : BitVec 32 := 1#32
  let v21 : BitVec 32 := Scalar.subi arg0 c1_i32_8
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v32 : Index := Scalar.indexCast v31
  let c0_14 : Index := 0#32
  let c0_15 : Index := 0#32
  ![v32.toNat, 0, 0]
def k0_cond4 (i : grid0.Coords) : BitVec 1 :=
  let arg0 : BitVec 32 := BitVec.ofNat 32 (i 0).val
  let c98_i32_6 : BitVec 32 := 98#32
  let v18 : BitVec 1 := Scalar.cmpi .eq arg0 c98_i32_6
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
abbrev S1024x128 : Shape := ⟨2, ![1024, 128]⟩
abbrev S1024 : Shape := ⟨1, ![1024]⟩
abbrev S128x256 : Shape := ⟨2, ![128, 256]⟩
abbrev S256 : Shape := ⟨1, ![256]⟩
abbrev S256x1000 : Shape := ⟨2, ![256, 1000]⟩
abbrev S1000x256 : Shape := ⟨2, ![1000, 256]⟩
abbrev S256x100000 : Shape := ⟨2, ![256, 100000]⟩
abbrev S1024x256 : Shape := ⟨2, ![1024, 256]⟩
abbrev S1x256 : Shape := ⟨2, ![1, 256]⟩
abbrev S1024x1000 : Shape := ⟨2, ![1024, 1000]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x100000 : Shape := ⟨2, ![1024, 100000]⟩

abbrev nBuf : Space → Nat
  | .hbm => 173
  | .vmem => 0
  | .smem => 0
  | _ => 0

abbrev hbmTy0_0 (i : Nat) : BufTy := match i % 128 with
  | 0 => ⟨S1024x128, .f32⟩
  | 1 => ⟨S1024, .f32⟩
  | 2 => ⟨S128x256, .f32⟩
  | 3 => ⟨S256, .f32⟩
  | 4 => ⟨S256x1000, .f32⟩
  | 5 => ⟨S1000x256, .f32⟩
  | 6 => ⟨S256x100000, .f32⟩
  | 7 => ⟨S256, .f32⟩
  | 8 => ⟨S1024, .i32⟩
  | 9 => ⟨S1024, .i32⟩
  | 10 => ⟨S1024x256, .f32⟩
  | 11 => ⟨S1x256, .f32⟩
  | 12 => ⟨S1024x256, .f32⟩
  | 13 => ⟨S1024x256, .f32⟩
  | 14 => ⟨S1024x256, .f32⟩
  | 15 => ⟨S1024x1000, .f32⟩
  | 16 => ⟨S_, .f32⟩
  | 17 => ⟨S1024, .f32⟩
  | 18 => ⟨S1024x1, .f32⟩
  | 19 => ⟨S1024x1000, .f32⟩
  | 20 => ⟨S1024x1000, .f32⟩
  | 21 => ⟨S1024x1000, .f32⟩
  | 22 => ⟨S_, .f32⟩
  | 23 => ⟨S1024, .f32⟩
  | 24 => ⟨S1024x1, .f32⟩
  | 25 => ⟨S1024x1, .f32⟩
  | 26 => ⟨S1024x1, .f32⟩
  | 27 => ⟨S1024x1000, .f32⟩
  | 28 => ⟨S1024x1000, .f32⟩
  | 29 => ⟨S1024x1, .i32⟩
  | 30 => ⟨S_, .i32⟩
  | 31 => ⟨S1024x1, .i32⟩
  | 32 => ⟨S1024x1, .i1⟩
  | 33 => ⟨S_, .i32⟩
  | 34 => ⟨S1024x1, .i32⟩
  | 35 => ⟨S1024x1, .i32⟩
  | 36 => ⟨S1024x1, .i32⟩
  | 37 => ⟨S1024x1x1, .i32⟩
  | 38 => ⟨S1, .i32⟩
  | 39 => ⟨S_, .i32⟩
  | 40 => ⟨S1024x1x1, .i32⟩
  | 41 => ⟨S1024x1x1, .i1⟩
  | 42 => ⟨S1x1x1, .i32⟩
  | 43 => ⟨S1024x1x1, .i32⟩
  | 44 => ⟨S1024x1x1, .i1⟩
  | 45 => ⟨S1024x1x1, .i1⟩
  | 46 => ⟨S_, .i1⟩
  | 47 => ⟨S1024x1, .i1⟩
  | 48 => ⟨S1024x1, .f32⟩
  | 49 => ⟨S_, .f32⟩
  | 50 => ⟨S1024x1, .f32⟩
  | 51 => ⟨S1024x1, .f32⟩
  | 52 => ⟨S1024x1000, .f32⟩
  | 53 => ⟨S1024x1000, .f32⟩
  | 54 => ⟨S_, .f32⟩
  | 55 => ⟨S1024, .f32⟩
  | 56 => ⟨S1024x1, .f32⟩
  | 57 => ⟨S1024x1, .f32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1024x256, .f32⟩
  | 67 => ⟨S1024x256, .f32⟩
  | 68 => ⟨S1024x256, .f32⟩
  | 69 => ⟨S1024x100000, .f32⟩
  | 70 => ⟨S_, .f32⟩
  | 71 => ⟨S1024, .f32⟩
  | 72 => ⟨S1024x1, .f32⟩
  | 73 => ⟨S1024x100000, .f32⟩
  | 74 => ⟨S1024x100000, .f32⟩
  | 75 => ⟨S1024x100000, .f32⟩
  | 76 => ⟨S_, .f32⟩
  | 77 => ⟨S1024, .f32⟩
  | 78 => ⟨S1024x1, .f32⟩
  | 79 => ⟨S1024x1, .f32⟩
  | 80 => ⟨S1024x1, .f32⟩
  | 81 => ⟨S1024x100000, .f32⟩
  | 82 => ⟨S1024x100000, .f32⟩
  | 83 => ⟨S1024x1, .i32⟩
  | 84 => ⟨S_, .i32⟩
  | 85 => ⟨S1024x1, .i32⟩
  | 86 => ⟨S1024x1, .i1⟩
  | 87 => ⟨S_, .i32⟩
  | 88 => ⟨S1024x1, .i32⟩
  | 89 => ⟨S1024x1, .i32⟩
  | 90 => ⟨S1024x1, .i32⟩
  | 91 => ⟨S1024x1x1, .i32⟩
  | 92 => ⟨S1, .i32⟩
  | 93 => ⟨S_, .i32⟩
  | 94 => ⟨S1024x1x1, .i32⟩
  | 95 => ⟨S1024x1x1, .i1⟩
  | 96 => ⟨S1x1x1, .i32⟩
  | 97 => ⟨S1024x1x1, .i32⟩
  | 98 => ⟨S1024x1x1, .i1⟩
  | 99 => ⟨S1024x1x1, .i1⟩
  | 100 => ⟨S_, .i1⟩
  | 101 => ⟨S1024x1, .i1⟩
  | 102 => ⟨S1024x1, .f32⟩
  | 103 => ⟨S_, .f32⟩
  | 104 => ⟨S1024x1, .f32⟩
  | 105 => ⟨S1024x1, .f32⟩
  | 106 => ⟨S1024x100000, .f32⟩
  | 107 => ⟨S1024x100000, .f32⟩
  | 108 => ⟨S_, .f32⟩
  | 109 => ⟨S1024, .f32⟩
  | 110 => ⟨S1024x1, .f32⟩
  | 111 => ⟨S1024x1, .f32⟩
  | 112 => ⟨S1024, .f32⟩
  | 113 => ⟨S1024, .f32⟩
  | 114 => ⟨S_, .f32⟩
  | 115 => ⟨S1024, .f32⟩
  | 116 => ⟨S1024, .f32⟩
  | 117 => ⟨S1024, .f32⟩
  | 118 => ⟨S1024, .f32⟩
  | 119 => ⟨S1024, .i1⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S1024x128, .f32⟩

abbrev hbmTy0_1 (i : Nat) : BufTy := match i % 128 with
  | 0 => ⟨S1024, .f32⟩
  | 1 => ⟨S1024, .f32⟩
  | 2 => ⟨S1024, .f32⟩
  | 3 => ⟨S_, .f32⟩
  | 4 => ⟨S1024, .f32⟩
  | 5 => ⟨S1024, .f32⟩
  | 6 => ⟨S1024, .f32⟩
  | 7 => ⟨S1024, .f32⟩
  | 8 => ⟨S1024, .i1⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024x1, .f32⟩
  | 40 => ⟨S1024x1, .f32⟩
  | 41 => ⟨S1024x1, .f32⟩
  | 42 => ⟨S1024x1, .f32⟩
  | 43 => ⟨S1024x1, .f32⟩
  | 44 => ⟨S1024x1, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c : Ref sig .tc := ⟨.hbm, 58, rfl⟩
abbrev main_v24 : Ref sig .tc := ⟨.hbm, 59, rfl⟩
abbrev main_v25 : Ref sig .tc := ⟨.hbm, 60, rfl⟩
abbrev main_c_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_3 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_cst : Ref sig .tc := ⟨.hbm, 103, rfl⟩
abbrev main_call1_v14 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_5 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_call2_v0 : Ref sig .tc := ⟨.hbm, 113, rfl⟩
abbrev main_call2_call0_cst : Ref sig .tc := ⟨.hbm, 114, rfl⟩
abbrev main_call2_call0_v0 : Ref sig .tc := ⟨.hbm, 115, rfl⟩
abbrev main_call2_call0_v1 : Ref sig .tc := ⟨.hbm, 116, rfl⟩
abbrev main_call2_call0_v2 : Ref sig .tc := ⟨.hbm, 117, rfl⟩
abbrev main_call2_call0_v3 : Ref sig .tc := ⟨.hbm, 118, rfl⟩
abbrev main_call2_call0_v4 : Ref sig .tc := ⟨.hbm, 119, rfl⟩
abbrev main_call2_call0_v5 : Ref sig .tc := ⟨.hbm, 120, rfl⟩
abbrev main_call2_call0_v6 : Ref sig .tc := ⟨.hbm, 121, rfl⟩
abbrev main_call2_call0_v7 : Ref sig .tc := ⟨.hbm, 122, rfl⟩
abbrev main_call2_call0_v8 : Ref sig .tc := ⟨.hbm, 123, rfl⟩
abbrev main_call2_call0_v9 : Ref sig .tc := ⟨.hbm, 124, rfl⟩
abbrev main_call2_call0_v10 : Ref sig .tc := ⟨.hbm, 125, rfl⟩
abbrev main_call2_call0_v11 : Ref sig .tc := ⟨.hbm, 126, rfl⟩
abbrev main_call2_v1 : Ref sig .tc := ⟨.hbm, 127, rfl⟩
abbrev main_v53 : Ref sig .tc := ⟨.hbm, 128, rfl⟩
abbrev main_v54 : Ref sig .tc := ⟨.hbm, 129, rfl⟩
abbrev main_call3_v0 : Ref sig .tc := ⟨.hbm, 130, rfl⟩
abbrev main_call3_call0_cst : Ref sig .tc := ⟨.hbm, 131, rfl⟩
abbrev main_call3_call0_v0 : Ref sig .tc := ⟨.hbm, 132, rfl⟩
abbrev main_call3_call0_v1 : Ref sig .tc := ⟨.hbm, 133, rfl⟩
abbrev main_call3_call0_v2 : Ref sig .tc := ⟨.hbm, 134, rfl⟩
abbrev main_call3_call0_v3 : Ref sig .tc := ⟨.hbm, 135, rfl⟩
abbrev main_call3_call0_v4 : Ref sig .tc := ⟨.hbm, 136, rfl⟩
abbrev main_call3_call0_v5 : Ref sig .tc := ⟨.hbm, 137, rfl⟩
abbrev main_call3_call0_v6 : Ref sig .tc := ⟨.hbm, 138, rfl⟩
abbrev main_call3_call0_v7 : Ref sig .tc := ⟨.hbm, 139, rfl⟩
abbrev main_call3_call0_v8 : Ref sig .tc := ⟨.hbm, 140, rfl⟩
abbrev main_call3_call0_v9 : Ref sig .tc := ⟨.hbm, 141, rfl⟩
abbrev main_call3_call0_v10 : Ref sig .tc := ⟨.hbm, 142, rfl⟩
abbrev main_call3_call0_v11 : Ref sig .tc := ⟨.hbm, 143, rfl⟩
abbrev main_call3_v1 : Ref sig .tc := ⟨.hbm, 144, rfl⟩
abbrev main_v55 : Ref sig .tc := ⟨.hbm, 145, rfl⟩
abbrev main_v56 : Ref sig .tc := ⟨.hbm, 146, rfl⟩
abbrev main_cst_6 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_cst_7 : Ref sig .tc := ⟨.hbm, 154, rfl⟩
abbrev main_v63 : Ref sig .tc := ⟨.hbm, 155, rfl⟩
abbrev main_v64 : Ref sig .tc := ⟨.hbm, 156, rfl⟩
abbrev main_cst_8 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_cst_9 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩

abbrev nD : Nat := 1
abbrev τ : Topo := Topo.v7x

variable {F : FTy → Type} [FloatOps F]
-- ==== Proof.KernelBody.lean ====
/-
The kernel body of the program as compiled, run once at each of the three kinds of grid point (the first, a
middle one, the last), and the three put together: at every point the body terminates, leaves its inputs as
they were and its outputs and scratch at some contents.
-/
module

public import proofs.«01_k».proof.Proof.Gen.Kernel.Frame
public import proofs.«01_k».proof.Proof.Gen.Kernel.Skeleton
public import Idealize.ShloMosaic.Lib.Pipeline.Value
public import Idealize.ShloMosaic.Lib.Tactic.Stretches

@[expose] public section

set_option maxRecDepth 16384

noncomputable section

namespace Cert.Proof.WordBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three runs -/

variable (arg1 : Memref sig .tc .vmem S1024x128 .f32) (harg1 : arg1.IsWhole)
  (arg2 : Memref sig .tc .vmem S1024x1 .f32) (harg2 : arg2.IsWhole)
  (arg3 : Memref sig .tc .vmem S128x256 .f32) (harg3 : arg3.IsWhole)
  (arg4 : Memref sig .tc .vmem S1x256 .f32) (harg4 : arg4.IsWhole)
  (arg5 : Memref sig .tc .vmem S256x1024 .f32) (harg5 : arg5.IsWhole)
  (arg6 : Memref sig .tc .vmem S1024x256 .f32) (harg6 : arg6.IsWhole)
  (arg7 : Memref sig .tc .vmem S256x1 .f32) (harg7 : arg7.IsWhole)
  (arg8 : Memref sig .tc .vmem S1024x1 .i32) (harg8 : arg8.IsWhole)
  (arg9 : Memref sig .tc .vmem S1024x1 .i32) (harg9 : arg9.IsWhole)
  (arg10 : Memref sig .tc .vmem S256x1024 .f32) (harg10 : arg10.IsWhole)
  (arg11 : Memref sig .tc .vmem S1024x1 .f32) (harg11 : arg11.IsWhole)
  (arg12 : Memref sig .tc .vmem S1024x1 .f32) (harg12 : arg12.IsWhole)
  (arg13 : Memref sig .tc .vmem S1024x256 .bf16) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1024x128 .f32) (harg16 : arg16.IsWhole)
  (arg17 : Memref sig .tc .vmem S1024x1 .f32) (harg17 : arg17.IsWhole)
  (arg18 : Memref sig .tc .vmem S1024x1 .f32) (harg18 : arg18.IsWhole)
  (arg19 : Memref sig .tc .vmem S2x1024x1024 .f32) (harg19 : arg19.IsWhole)

set_option maxHeartbeats 4000000 in
/-- The first point: the trunk's values, the first and the middle action's terms, zeroed running sums and the first slab. -/
theorem body_first (c : Dev nD) (E : Set ℕ) (i : grid0.Coords) (h1 : Scalar.cmpi .ne (Scalar.extui (Scalar.cmpi .eq (BitVec.ofNat 32 (i 0).val) 0#32)) (0#32 : BitVec 32) = 1#1)
    (h2 : k0_cond2 i = 1#1) (h3 : ¬ k0_cond3 i = 1#1) (h4 : ¬ k0_cond4 i = 1#1)
    (x1 : Vec F S1024x128 .f32) (x2 : Vec F S1024x1 .f32) (x3 : Vec F S128x256 .f32) (x4 : Vec F S1x256 .f32) (x5 : Vec F S256x1024 .f32) (x6 : Vec F S1024x256 .f32) (x7 : Vec F S256x1 .f32) (x8 : Vec F S1024x1 .i32) (x9 : Vec F S1024x1 .i32) (x10 : Vec F S256x1024 .f32) (x13 : Vec F S1024x256 .bf16) (x14 : Vec F S1024x128 .f32) (x15 : Vec F S1024x128 .f32) (x16 : Vec F S1024x128 .f32) (x17 : Vec F S1024x1 .f32) (x18 : Vec F S1024x1 .f32) (x19 : Vec F S2x1024x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ y, owns (c : Thread nD τ) arg13 fullShare y)
          ∗ (∃ y, owns (c : Thread nD τ) arg14 fullShare y)
          ∗ (∃ y, owns (c : Thread nD τ) arg15 fullShare y)
          ∗ (∃ y, owns (c : Thread nD τ) arg16 fullShare y)
          ∗ (∃ y, owns (c : Thread nD τ) arg17 fullShare y)
          ∗ (∃ y, owns (c : Thread nD τ) arg18 fullShare y)
          ∗ (∃ y, owns (c : Thread nD τ) arg19 fullShare y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf1 hf2 hf3 hf4 hf5 hf6 hf7 hf8 hf9 hf10 hf13 hf14 hf15 hf16 hf17 hf18 hf19
  sl_exec (disch := first | exact h1 | exact h2 | exact h3 | exact h4)
  sl_step
  iapply Hk
  isplitl [H1]
  · (iexists f1; isplitr; swap; iexact H1; ipureintro; rfl)
  isplitl [H2]
  · (iexists f2; isplitr; swap; iexact H2; ipureintro; rfl)
  isplitl [H3]
  · (iexists f3; isplitr; swap; iexact H3; ipureintro; rfl)
  isplitl [H4]
  · (iexists f4; isplitr; swap; iexact H4; ipureintro; rfl)
  isplitl [H5]
  · (iexists f5; isplitr; swap; iexact H5; ipureintro; rfl)
  isplitl [H6]
  · (iexists f6; isplitr; swap; iexact H6; ipureintro; rfl)
  isplitl [H7]
  · (iexists f7; isplitr; swap; iexact H7; ipureintro; rfl)
  isplitl [H8]
  · (iexists f8; isplitr; swap; iexact H8; ipureintro; rfl)
  isplitl [H9]
  · (iexists f9; isplitr; swap; iexact H9; ipureintro; rfl)
  isplitl [H10]
  · (iexists f10; isplitr; swap; iexact H10; ipureintro; rfl)
  isplitl [H13]
  · iexists _; (iexists _; isplitr; swap; iexact H13; ipureintro; rfl)
  isplitl [H14]
  · iexists _; (iexists _; isplitr; swap; iexact H14; ipureintro; rfl)
  isplitl [H15]
  · iexists _; (iexists _; isplitr; swap; iexact H15; ipureintro; rfl)
  isplitl [H16]
  · iexists _; (iexists _; isplitr; swap; iexact H16; ipureintro; rfl)
  isplitl [H17]
  · iexists _; (iexists _; isplitr; swap; iexact H17; ipureintro; rfl)
  isplitl [H18]
  · iexists _; (iexists _; isplitr; swap; iexact H18; ipureintro; rfl)
  · iexists _; (iexists _; isplitr; swap; iexact H19; ipureintro; rfl)

set_option maxHeartbeats 4000000 in
/-- A middle point: the next slab into its half of the buffer, the slab before it folded into the three running sums. -/
theorem body_mid (c : Dev nD) (E : Set ℕ) (i : grid0.Coords) (h1 : ¬ Scalar.cmpi .ne (Scalar.extui (Scalar.cmpi .eq (BitVec.ofNat 32 (i 0).val) 0#32)) (0#32 : BitVec 32) = 1#1)
    (h2 : k0_cond2 i = 1#1) (h3 : k0_cond3 i = 1#1) (h4 : ¬ k0_cond4 i = 1#1)
    (hoff : (k0_off1 i = ![0, 0, 0] ∧ k0_off2 i = ![1, 0, 0]) ∨ (k0_off1 i = ![1, 0, 0] ∧ k0_off2 i = ![0, 0, 0]))
    (x9 : Vec F S1024x1 .i32) (x10 : Vec F S256x1024 .f32) (x13 : Vec F S1024x256 .bf16) (x14 : Vec F S1024x128 .f32) (x15 : Vec F S1024x128 .f32) (x16 : Vec F S1024x128 .f32) (x19 : Vec F S2x1024x1024 .f32) (K : PUnit → sProp 𝕄) :
    iprop(owns (c : Thread nD τ) arg9 fullShare x9 ∗ owns (c : Thread nD τ) arg10 fullShare x10 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg19 fullShare x19
        ∗ (iprop(owns (c : Thread nD τ) arg9 fullShare x9
          ∗ owns (c : Thread nD τ) arg10 fullShare x10
          ∗ owns (c : Thread nD τ) arg13 fullShare x13
          ∗ (∃ y, owns (c : Thread nD τ) arg14 fullShare y)
          ∗ (∃ y, owns (c : Thread nD τ) arg15 fullShare y)
          ∗ (∃ y, owns (c : Thread nD τ) arg16 fullShare y)
          ∗ (∃ y, owns (c : Thread nD τ) arg19 fullShare y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f9, %hf9, H9⟩, ⟨%f10, %hf10, H10⟩, ⟨%f13, %hf13, H13⟩, ⟨%f14, %hf14, H14⟩, ⟨%f15, %hf15, H15⟩, ⟨%f16, %hf16, H16⟩, ⟨%f19, %hf19, H19⟩, Hk⟩
  subst hf9 hf10 hf13 hf14 hf15 hf16 hf19
  rcases hoff with ⟨ho1, ho2⟩ | ⟨ho1, ho2⟩
  all_goals
    letI : ClosedOff (k0_off1 i) := ⟨_, ho1⟩
    letI : ClosedOff (k0_off2 i) := ⟨_, ho2⟩
    sl_exec (disch := first | exact h1 | exact h2 | exact h3 | exact h4)
    sl_step
    iapply Hk
    isplitl [H9]
    · (iexists f9; isplitr; swap; iexact H9; ipureintro; rfl)
    isplitl [H10]
    · (iexists f10; isplitr; swap; iexact H10; ipureintro; rfl)
    isplitl [H13]
    · (iexists f13; isplitr; swap; iexact H13; ipureintro; rfl)
    isplitl [H14]
    · iexists _; (iexists _; isplitr; swap; iexact H14; ipureintro; rfl)
    isplitl [H15]
    · iexists _; (iexists _; isplitr; swap; iexact H15; ipureintro; rfl)
    isplitl [H16]
    · iexists _; (iexists _; isplitr; swap; iexact H16; ipureintro; rfl)
    · iexists _; (iexists _; isplitr; swap; iexact H19; ipureintro; rfl)

set_option maxHeartbeats 4000000 in
/-- The last point: the last slab, its padded columns masked, folded into the sums, and the two results. -/
theorem body_last (c : Dev nD) (E : Set ℕ) (i : grid0.Coords) (h1 : ¬ Scalar.cmpi .ne (Scalar.extui (Scalar.cmpi .eq (BitVec.ofNat 32 (i 0).val) 0#32)) (0#32 : BitVec 32) = 1#1)
    (h2 : ¬ k0_cond2 i = 1#1) (h3 : ¬ k0_cond3 i = 1#1) (h4 : k0_cond4 i = 1#1)
    (x9 : Vec F S1024x1 .i32) (x11 : Vec F S1024x1 .f32) (x12 : Vec F S1024x1 .f32) (x14 : Vec F S1024x128 .f32) (x15 : Vec F S1024x128 .f32) (x16 : Vec F S1024x128 .f32) (x17 : Vec F S1024x1 .f32) (x18 : Vec F S1024x1 .f32) (x19 : Vec F S2x1024x1024 .f32) (K : PUnit → sProp 𝕄) :
    iprop(owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
        ∗ (iprop(owns (c : Thread nD τ) arg9 fullShare x9
          ∗ (∃ y, owns (c : Thread nD τ) arg11 fullShare y)
          ∗ (∃ y, owns (c : Thread nD τ) arg12 fullShare y)
          ∗ (∃ y, owns (c : Thread nD τ) arg14 fullShare y)
          ∗ (∃ y, owns (c : Thread nD τ) arg15 fullShare y)
          ∗ (∃ y, owns (c : Thread nD τ) arg16 fullShare y)
          ∗ owns (c : Thread nD τ) arg17 fullShare x17
          ∗ owns (c : Thread nD τ) arg18 fullShare x18
          ∗ owns (c : Thread nD τ) arg19 fullShare x19) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f9, %hf9, H9⟩, ⟨%f11, %hf11, H11⟩, ⟨%f12, %hf12, H12⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf9 hf11 hf12 hf14 hf15 hf16 hf17 hf18 hf19
  sl_exec (disch := first | exact h1 | exact h2 | exact h3 | exact h4)
  sl_step
  iapply Hk
  isplitl [H9]
  · (iexists f9; isplitr; swap; iexact H9; ipureintro; rfl)
  isplitl [H11]
  · iexists _; (iexists _; isplitr; swap; iexact H11; ipureintro; rfl)
  isplitl [H12]
  · iexists _; (iexists _; isplitr; swap; iexact H12; ipureintro; rfl)
  isplitl [H14]
  · iexists _; (iexists _; isplitr; swap; iexact H14; ipureintro; rfl)
  isplitl [H15]
  · iexists _; (iexists _; isplitr; swap; iexact H15; ipureintro; rfl)
  isplitl [H16]
  · iexists _; (iexists _; isplitr; swap; iexact H16; ipureintro; rfl)
  isplitl [H17]
  · (iexists f17; isplitr; swap; iexact H17; ipureintro; rfl)
  isplitl [H18]
  · (iexists f18; isplitr; swap; iexact H18; ipureintro; rfl)
  · (iexists f19; isplitr; swap; iexact H19; ipureintro; rfl)

/-! ## Any point -/

/-- Which of the three runs grid point `i` takes: the first, a middle one (its two slabs the two halves of the buffer) or the last. -/
def Kind3 (i : grid0.Coords) : Prop :=
  ((Scalar.cmpi .ne (Scalar.extui (Scalar.cmpi .eq (BitVec.ofNat 32 (i 0).val) 0#32)) (0#32 : BitVec 32) = 1#1) ∧ k0_cond2 i = 1#1 ∧ (¬ k0_cond3 i = 1#1) ∧ ¬ k0_cond4 i = 1#1)
  ∨ ((¬ Scalar.cmpi .ne (Scalar.extui (Scalar.cmpi .eq (BitVec.ofNat 32 (i 0).val) 0#32)) (0#32 : BitVec 32) = 1#1) ∧ k0_cond2 i = 1#1 ∧ k0_cond3 i = 1#1 ∧ (¬ k0_cond4 i = 1#1)
      ∧ ((k0_off1 i = ![0, 0, 0] ∧ k0_off2 i = ![1, 0, 0]) ∨ (k0_off1 i = ![1, 0, 0] ∧ k0_off2 i = ![0, 0, 0])))
  ∨ ((¬ Scalar.cmpi .ne (Scalar.extui (Scalar.cmpi .eq (BitVec.ofNat 32 (i 0).val) 0#32)) (0#32 : BitVec 32) = 1#1) ∧ (¬ k0_cond2 i = 1#1) ∧ (¬ k0_cond3 i = 1#1) ∧ k0_cond4 i = 1#1)

instance (i : grid0.Coords) : Decidable (Kind3 i) := by unfold Kind3; infer_instance

/-- Every grid point is of one of the three kinds. -/
theorem kind3 : ∀ t : Fin grid0.N, Kind3 (grid0.coords t) := by decide +kernel

/-- At any point the body leaves its ten inputs as they were, and every other buffer at some contents. -/
theorem body_any (c : Dev nD) (E : Set ℕ) (i : grid0.Coords) (hi : Kind3 i)
    (x1 : Vec F S1024x128 .f32) (x2 : Vec F S1024x1 .f32) (x3 : Vec F S128x256 .f32) (x4 : Vec F S1x256 .f32) (x5 : Vec F S256x1024 .f32) (x6 : Vec F S1024x256 .f32) (x7 : Vec F S256x1 .f32) (x8 : Vec F S1024x1 .i32) (x9 : Vec F S1024x1 .i32) (x10 : Vec F S256x1024 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ (∃ y, owns (c : Thread nD τ) arg11 fullShare y)
        ∗ (∃ y, owns (c : Thread nD τ) arg12 fullShare y)
        ∗ (∃ y, owns (c : Thread nD τ) arg13 fullShare y)
        ∗ (∃ y, owns (c : Thread nD τ) arg14 fullShare y)
        ∗ (∃ y, owns (c : Thread nD τ) arg15 fullShare y)
        ∗ (∃ y, owns (c : Thread nD τ) arg16 fullShare y)
        ∗ (∃ y, owns (c : Thread nD τ) arg17 fullShare y)
        ∗ (∃ y, owns (c : Thread nD τ) arg18 fullShare y)
        ∗ (∃ y, owns (c : Thread nD τ) arg19 fullShare y)
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ y, owns (c : Thread nD τ) arg11 fullShare y)
          ∗ (∃ y, owns (c : Thread nD τ) arg12 fullShare y)
          ∗ (∃ y, owns (c : Thread nD τ) arg13 fullShare y)
          ∗ (∃ y, owns (c : Thread nD τ) arg14 fullShare y)
          ∗ (∃ y, owns (c : Thread nD τ) arg15 fullShare y)
          ∗ (∃ y, owns (c : Thread nD τ) arg16 fullShare y)
          ∗ (∃ y, owns (c : Thread nD τ) arg17 fullShare y)
          ∗ (∃ y, owns (c : Thread nD τ) arg18 fullShare y)
          ∗ (∃ y, owns (c : Thread nD τ) arg19 fullShare y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H1, H2, H3, H4, H5, H6, H7, H8, H9, H10, ⟨%x11, H11⟩, ⟨%x12, H12⟩, ⟨%x13, H13⟩, ⟨%x14, H14⟩, ⟨%x15, H15⟩, ⟨%x16, H16⟩, ⟨%x17, H17⟩, ⟨%x18, H18⟩, ⟨%x19, H19⟩, Hk⟩
  rcases hi with ⟨h1, h2, h3, h4⟩ | ⟨h1, h2, h3, h4, hoff⟩ | ⟨h1, h2, h3, h4⟩
  · iapply (body_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c E i h1 h2 h3 h4 x1 x2 x3 x4 x5 x6 x7 x8 x9 x10 x13 x14 x15 x16 x17 x18 x19 K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, ⟨%y13, H13⟩, ⟨%y14, H14⟩, ⟨%y15, H15⟩, ⟨%y16, H16⟩, ⟨%y17, H17⟩, ⟨%y18, H18⟩, ⟨%y19, H19⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · iapply (body_mid arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c E i h1 h2 h3 h4 hoff x9 x10 x13 x14 x15 x16 x19 K)
    isplitl [H9]; · iexact H9
    isplitl [H10]; · iexact H10
    isplitl [H13]; · iexact H13
    isplitl [H14]; · iexact H14
    isplitl [H15]; · iexact H15
    isplitl [H16]; · iexact H16
    isplitl [H19]; · iexact H19
    iintro ⟨H9, H10, H13, ⟨%y14, H14⟩, ⟨%y15, H15⟩, ⟨%y16, H16⟩, ⟨%y19, H19⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · iapply (body_last arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c E i h1 h2 h3 h4 x9 x11 x12 x14 x15 x16 x17 x18 x19 K)
    isplitl [H9]; · iexact H9
    isplitl [H11]; · iexact H11
    isplitl [H12]; · iexact H12
    isplitl [H14]; · iexact H14
    isplitl [H15]; · iexact H15
    isplitl [H16]; · iexact H16
    isplitl [H17]; · iexact H17
    isplitl [H18]; · iexact H18
    isplitl [H19]; · iexact H19
    iintro ⟨H9, ⟨%y11, H11⟩, ⟨%y12, H12⟩, ⟨%y14, H14⟩, ⟨%y15, H15⟩, ⟨%y16, H16⟩, H17, H18, H19⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Proof.WordBody
end
-- ==== Proof.KernelFrame.lean ====
/-
The frame of the program as compiled: from any memory every execution terminates, leaves the ten argument
arrays as they were, and leaves every semaphore counter at zero. What the kernel leaves in its two results is
not named here: the two output windows are forgotten.
-/
module

public import proofs.«01_k».proof.Proof.KernelBody

@[expose] public section

set_option maxRecDepth 16384

noncomputable section

namespace Cert.Proof.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output windows, whose contents nothing here names. -/
def fgt : Fin cfg0.W → Bool := fun w => decide (w = 10 ∨ w = 11)

/-- The proof data: the arrays as the region finds them, each input's buffer left at its block (the last block of
    the wide weights, which overhangs its array, filled out with zeros), the outputs at zeros (forgotten). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (cfg0.win 9).fill (cfg0.grid.coords t) (fun _ => Scalar.ofBits .f32 0#32) (iblk m c 9 t)
    | ⟨10, _⟩ => fun _ => Scalar.ofBits .f32 0#32
    | ⟨11, _⟩ => fun _ => Scalar.ofBits .f32 0#32
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = (cfg0.win 9).fill (cfg0.grid.coords t) (fun _ => Scalar.ofBits .f32 0#32) (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The wide weights' buffer holds its block at every point, filled out past the array's end with anything. -/
theorem before_9 (c : Dev nD) (t : Fin cfg0.N) (d) : (dats m 0 c).before 9 t d
    = (cfg0.win 9).fill (cfg0.grid.coords t) d (iblk m c 9 t) := by
  rw [(dats m 0 c).before_in_eq_fetched 9 rfl (fun _ => rfl)
    (fun t t' h => by
      funext a
      exact congrArg (fun n => Pipeline.Clip.of n (S256x1024.size a) (S256x100000.size a)) (congrFun h a))
    (fun t => by rw [after_9, Pipeline.Window.cut_fill]; unfold Dat.blockOf iblk; rw [A_eq])]
  unfold Dat.fetched Dat.blockOf iblk; rw [A_eq]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- A buffer at some contents is the whole memref of it owned at some contents. -/
theorem ex_owns (c : Dev nD) (b : Ref sig .tc) :
    (iprop(∃ y, owns (c : Thread nD τ) (Memref.whole b) fullShare y) : sProp 𝕄)
      = iprop(∃ f : Buf (Elt F) ((c : Thread nD τ).loc b), ((c : Thread nD τ).loc b) ↦{fullShare} f) := by
  simp only [owns_whole_eq]
  have h1 : (iprop(∃ y, ∃ f : Buf (Elt F) ((c : Thread nD τ).loc b), ⌜f = y⌝ ∗ ((c : Thread nD τ).loc b) ↦{fullShare} f) : sProp 𝕄)
      ⊢ iprop(∃ f : Buf (Elt F) ((c : Thread nD τ).loc b), ((c : Thread nD τ).loc b) ↦{fullShare} f) := by
    iintro ⟨%y, %f, %hf, H⟩; iexists f; iexact H
  have h2 : (iprop(∃ f : Buf (Elt F) ((c : Thread nD τ).loc b), ((c : Thread nD τ).loc b) ↦{fullShare} f) : sProp 𝕄)
      ⊢ iprop(∃ y, ∃ f : Buf (Elt F) ((c : Thread nD τ).loc b), ⌜f = y⌝ ∗ ((c : Thread nD τ).loc b) ↦{fullShare} f) := by
    iintro ⟨%f, H⟩; iexists f; iexists f; isplitr; · ipureintro; rfl
    iexact H
  exact Idealize.SL.BI.Entails.antisymm h1 h2

/-- The region's scratch, each buffer the whole memref of it. -/
theorem scratch_eq (c : Dev nD) : (Pipeline.scopedRest (Ix := Unit) (Name := ℕ) (U := UR sig nD τ) (Lvl := ℕ) (Val := Elt F) spec0 c : sProp 𝕄)
    = iprop((∃ y, owns (c : Thread nD τ) (Memref.whole cc0_scratch0) fullShare y) ∗ (∃ y, owns (c : Thread nD τ) (Memref.whole cc0_scratch1) fullShare y) ∗ (∃ y, owns (c : Thread nD τ) (Memref.whole cc0_scratch2) fullShare y) ∗ (∃ y, owns (c : Thread nD τ) (Memref.whole cc0_scratch3) fullShare y) ∗ (∃ y, owns (c : Thread nD τ) (Memref.whole cc0_scratch4) fullShare y) ∗ (∃ y, owns (c : Thread nD τ) (Memref.whole cc0_scratch5) fullShare y) ∗ (∃ y, owns (c : Thread nD τ) (Memref.whole cc0_scratch6) fullShare y)) := by
  rw [scopedRest0_eq]; simp only [ex_owns]

/-- The body's obligation at every point, the outputs forgotten. -/
theorem body_obligation (c : Dev nD) :
    BodyObligationLoose (dats (F := F) m 0 c) (defs₀ (F := F)) Variants.none () Set.univ fgt := fun t => by
  rw [bigSep_W0, bigSep_W0, defs₀_row]
  simp only [before_0, before_1, before_2, before_3, before_4, before_5, before_6, before_7, before_8, before_9,
    after_0, after_1, after_2, after_3, after_4, after_5, after_6, after_7, after_8, after_9, Pipeline.Window.cut_fill,
    show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = true from rfl, show fgt 11 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scratch_eq]
  iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (WordBody.body_any (F := F) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6)
    c Set.univ (grid0.coords t) (WordBody.kind3 t) _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, S0, S1, S2, S3, S4, S5, S6⟩
  isplitl [S0 S1 S2 S3 S4 S5 S6 Hp]
  · isplitr [Hp]
    · isplitl [S0]; · iexact S0
      isplitl [S1]; · iexact S1
      isplitl [S2]; · iexact S2
      isplitl [S3]; · iexact S3
      isplitl [S4]; · iexact S4
      isplitl [S5]; · iexact S5
      iexact S6
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  iexact H11

set_option backward.isDefEq.respectTransparency.types false in
/-- Every execution from any memory terminates, leaves the ten argument arrays as they were and every semaphore
    counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
) ∧ r.2.sem = fun _ => 0) := by
  refine Pipeline.θ_run_frame_forget cfgs (dats m) (0 : Fin 1) launch0 defs₀ Variants.none fgt m ρ main
    (hbody := body_obligation m) (hshare := fun c => (dats m 0 c).share_full fun _ => rfl) (howed := fun _ _ => rfl)
    (V := V m) (hmain := hmain m Variants.none) (hA := A_eq m) (hΦ := fun _ _ => rfl) (Q' := _) ?_
  rintro r ⟨h, hs⟩
  refine ⟨fun c => ?_, hs⟩
  have rest := (h c).2
  exact ⟨(h.arr_in c 0 rfl).trans ((A_eq m c 0).trans (V_main_arg0 m c)),
    (rest main_arg1 (Pipeline.mem_restRefs_of main_arg1 (by decide) (by decide))).trans (V_main_arg1 m c),
    (h.arr_in c 2 rfl).trans ((A_eq m c 2).trans (V_main_arg2 m c)),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c),
    (h.arr_in c 9 rfl).trans ((A_eq m c 9).trans (V_main_arg6 m c)),
    (rest main_arg7 (Pipeline.mem_restRefs_of main_arg7 (by decide) (by decide))).trans (V_main_arg7 m c),
    (rest main_arg8 (Pipeline.mem_restRefs_of main_arg8 (by decide) (by decide))).trans (V_main_arg8 m c),
    (rest main_arg9 (Pipeline.mem_restRefs_of main_arg9 (by decide) (by decide))).trans (V_main_arg9 m c)⟩

end Cert.Proof.WordFrame
end
-- ==== Proof.KernelIdealBody.lean ====
/-
The kernel body of the idealized program, run once at each of the three kinds of grid point: the first
(the trunk, the first and the middle action, the first slab of logits), a middle one (the next slab, and the
slab before it folded into the three running sums) and the last (the masked fold and the two results).
Each buffer's contents after the run are stated by the program's own payload functions.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic.Stretches

@[expose] public section

set_option maxRecDepth 16384

noncomputable section

namespace Cert.Proof.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole buffer overwritten by one store over all of it holds what was stored. -/
theorem read_store {sp : Space} {S : Shape} {e : EltTy} (M : Memref sig .tc sp S e)
    {off : Fin S.rank → Nat} (h : ∀ a, off a = 0) (inb : ∀ a, off a + S.size a ≤ S.size a)
    (f : M.view.ty.Contents (Elt F)) (w w' : Vec F S e) (hw : w = w') :
    M.view.read (Elt F) (M.view.writes (Elt F) f [⟨Rect.unit off S.size inb, w⟩]) = w' := by
  subst hw
  have hz : off = fun _ => 0 := funext h
  rw [View.read_writes_eq_canon _ _ _ (fun y => ⟨_, List.mem_singleton_self _, View.mem_set_unit_zero hz inb y⟩),
    View.canon_unit_zero hz]

/-- A buffer one box of which was stored to reads the stored contents through that box. -/
theorem ld_store {sp : Space} {S : Shape} {e : EltTy} (M : Memref sig .tc sp S e)
    (r : Rect S) (f : M.view.ty.Contents (Elt F)) (w w' : r.shape.Idx → Elt F e) (hw : w = w') :
    View.ld (M.view.read (Elt F) (M.view.writes (Elt F) f [⟨r, w⟩])) r = w' := by
  subst hw
  funext x
  exact View.read_writes_cons_emb _ _ _ _ _ _

/-- A load over all of a buffer reads what it holds. -/
theorem readAt_whole {sp : Space} {S : Shape} {e : EltTy} (M : Memref sig .tc sp S e)
    {off : Fin S.rank → Nat} (inb : ∀ a, off a + S.size a ≤ S.size a)
    (f : M.view.ty.Contents (Elt F)) (h : ∀ a, off a = 0) :
    M.view.readAt (Elt F) (Rect.unit off (no_index S.size) inb).toLoadRect f = M.view.read (Elt F) f := by
  rw [View.readAt_eq_ld]
  exact View.ld_unit_zero (funext h) _ _

/-- A load over all of a buffer, of what one store over all of it left, reads what was stored. -/
theorem readCov_whole {sp : Space} {S : Shape} {e : EltTy} (M : Memref sig .tc sp S e)
    {off off' : Fin S.rank → Nat} (inb : ∀ a, off a + S.size a ≤ S.size a) (inb' : ∀ a, off' a + S.size a ≤ S.size a)
    (w : Vec F S e) (h : ∀ a, off a = 0) (h' : ∀ a, off' a = 0) :
    M.view.readCov [(⟨Rect.unit off (no_index S.size) inb, w⟩ : View.Piece (Elt F) S e)]
      (Rect.unit off' (no_index S.size) inb').toLoadRect = w := by
  obtain rfl : off = off' := funext fun a => (h a).trans (h' a).symm
  exact View.readCov_unit_zero _ (funext h) _ _

/-! ## The three runs -/

variable (arg1 : Memref sig .tc .vmem S1024x128 .f32) (harg1 : arg1.IsWhole)
  (arg2 : Memref sig .tc .vmem S1024x1 .f32) (harg2 : arg2.IsWhole)
  (arg3 : Memref sig .tc .vmem S128x256 .f32) (harg3 : arg3.IsWhole)
  (arg4 : Memref sig .tc .vmem S1x256 .f32) (harg4 : arg4.IsWhole)
  (arg5 : Memref sig .tc .vmem S256x1024 .f32) (harg5 : arg5.IsWhole)
  (arg6 : Memref sig .tc .vmem S1024x256 .f32) (harg6 : arg6.IsWhole)
  (arg7 : Memref sig .tc .vmem S256x1 .f32) (harg7 : arg7.IsWhole)
  (arg8 : Memref sig .tc .vmem S1024x1 .i32) (harg8 : arg8.IsWhole)
  (arg9 : Memref sig .tc .vmem S1024x1 .i32) (harg9 : arg9.IsWhole)
  (arg10 : Memref sig .tc .vmem S256x1024 .f32) (harg10 : arg10.IsWhole)
  (arg11 : Memref sig .tc .vmem S1024x1 .f32) (harg11 : arg11.IsWhole)
  (arg12 : Memref sig .tc .vmem S1024x1 .f32) (harg12 : arg12.IsWhole)
  (arg13 : Memref sig .tc .vmem S1024x256 .bf16) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1024x128 .f32) (harg16 : arg16.IsWhole)
  (arg17 : Memref sig .tc .vmem S1024x1 .f32) (harg17 : arg17.IsWhole)
  (arg18 : Memref sig .tc .vmem S1024x1 .f32) (harg18 : arg18.IsWhole)
  (arg19 : Memref sig .tc .vmem S2x1024x1024 .f32) (harg19 : arg19.IsWhole)

set_option maxHeartbeats 4000000 in
/-- The first point: the trunk's values, the first and the middle action's terms, zeroed running sums and the first slab. -/
theorem body_first (c : Dev nD) (E : Set ℕ) (i : grid0.Coords) (h1 : Scalar.cmpi .ne (Scalar.extui (Scalar.cmpi .eq (BitVec.ofNat 32 (i 0).val) 0#32)) (0#32 : BitVec 32) = 1#1)
    (h2 : k0_cond2 i = 1#1) (h3 : ¬ k0_cond3 i = 1#1) (h4 : ¬ k0_cond4 i = 1#1)
    (x1 : Vec F S1024x128 .f32) (x2 : Vec F S1024x1 .f32) (x3 : Vec F S128x256 .f32) (x4 : Vec F S1x256 .f32) (x5 : Vec F S256x1024 .f32) (x6 : Vec F S1024x256 .f32) (x7 : Vec F S256x1 .f32) (x8 : Vec F S1024x1 .i32) (x9 : Vec F S1024x1 .i32) (x10 : Vec F S256x1024 .f32) (x13 : Vec F S1024x256 .bf16) (x14 : Vec F S1024x128 .f32) (x15 : Vec F S1024x128 .f32) (x16 : Vec F S1024x128 .f32) (x17 : Vec F S1024x1 .f32) (x18 : Vec F S1024x1 .f32) (x19 : Vec F S2x1024x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg13 fullShare (k0_pay22 (k0_pay12 x1 x3 x4) (k0_pay20 x8) x6)
          ∗ owns (c : Thread nD τ) arg14 fullShare k0_pay3
          ∗ owns (c : Thread nD τ) arg15 fullShare k0_pay4
          ∗ owns (c : Thread nD τ) arg16 fullShare k0_pay5
          ∗ owns (c : Thread nD τ) arg17 fullShare (k0_pay1 (k0_pay18 x1 x3 x4 x8 x5) (k0_pay26 (k0_pay12 x1 x3 x4) (k0_pay20 x8) x6 x7 x2))
          ∗ owns (c : Thread nD τ) arg18 fullShare (k0_pay2 (k0_pay19 x1 x3 x4 x5) (k0_pay27 (k0_pay12 x1 x3 x4) (k0_pay20 x8) x6 x7) (Scalar.ofBits .f32 0#32))
          ∗ (∃ y : Vec F S2x1024x1024 .f32, ⌜View.ld y (Rect.unit (s := S2x1024x1024) (k0_off1 i) S1x1024x1024.size (k0_off1_inb i h2)) = k0_pay6 (k0_pay22 (k0_pay12 x1 x3 x4) (k0_pay20 x8) x6) x10⌝ ∗ owns (c : Thread nD τ) arg19 fullShare y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf1 hf2 hf3 hf4 hf5 hf6 hf7 hf8 hf9 hf10 hf13 hf14 hf15 hf16 hf17 hf18 hf19
  sl_exec (disch := first | exact h1 | exact h2 | exact h3 | exact h4)
  sl_step
  iapply Hk
  isplitl [H1]
  · (iexists f1; isplitr; swap; iexact H1; ipureintro; rfl)
  isplitl [H2]
  · (iexists f2; isplitr; swap; iexact H2; ipureintro; rfl)
  isplitl [H3]
  · (iexists f3; isplitr; swap; iexact H3; ipureintro; rfl)
  isplitl [H4]
  · (iexists f4; isplitr; swap; iexact H4; ipureintro; rfl)
  isplitl [H5]
  · (iexists f5; isplitr; swap; iexact H5; ipureintro; rfl)
  isplitl [H6]
  · (iexists f6; isplitr; swap; iexact H6; ipureintro; rfl)
  isplitl [H7]
  · (iexists f7; isplitr; swap; iexact H7; ipureintro; rfl)
  isplitl [H8]
  · (iexists f8; isplitr; swap; iexact H8; ipureintro; rfl)
  isplitl [H9]
  · (iexists f9; isplitr; swap; iexact H9; ipureintro; rfl)
  isplitl [H10]
  · (iexists f10; isplitr; swap; iexact H10; ipureintro; rfl)
  isplitl [H13]
  · iexists _
    isplitr
    swap
    · iexact H13
    ipureintro
    sl_open_run
    refine read_store _ (by decide) _ _ _ _ ?_
    first | rfl | (simp (disch := decide) only [readAt_whole, readCov_whole]; done) | (simp (disch := decide) only [readAt_whole, readCov_whole]; rfl)
  isplitl [H14]
  · iexists _
    isplitr
    swap
    · iexact H14
    ipureintro
    sl_open_run
    refine read_store _ (by decide) _ _ _ _ ?_
    first | rfl | (simp (disch := decide) only [readAt_whole, readCov_whole]; done) | (simp (disch := decide) only [readAt_whole, readCov_whole]; rfl)
  isplitl [H15]
  · iexists _
    isplitr
    swap
    · iexact H15
    ipureintro
    sl_open_run
    refine read_store _ (by decide) _ _ _ _ ?_
    first | rfl | (simp (disch := decide) only [readAt_whole, readCov_whole]; done) | (simp (disch := decide) only [readAt_whole, readCov_whole]; rfl)
  isplitl [H16]
  · iexists _
    isplitr
    swap
    · iexact H16
    ipureintro
    sl_open_run
    refine read_store _ (by decide) _ _ _ _ ?_
    first | rfl | (simp (disch := decide) only [readAt_whole, readCov_whole]; done) | (simp (disch := decide) only [readAt_whole, readCov_whole]; rfl)
  isplitl [H17]
  · iexists _
    isplitr
    swap
    · iexact H17
    ipureintro
    sl_open_run
    refine read_store _ (by decide) _ _ _ _ ?_
    first | rfl | (simp (disch := decide) only [readAt_whole, readCov_whole]; done) | (simp (disch := decide) only [readAt_whole, readCov_whole]; rfl)
  isplitl [H18]
  · iexists _
    isplitr
    swap
    · iexact H18
    ipureintro
    sl_open_run
    refine read_store _ (by decide) _ _ _ _ ?_
    first | rfl | (simp (disch := decide) only [readAt_whole, readCov_whole]; done) | (simp (disch := decide) only [readAt_whole, readCov_whole]; rfl)
  · iexists _; isplitr
    swap; (iexists _; isplitr; swap; iexact H19; ipureintro; rfl)
    ipureintro
    sl_open_run
    refine ld_store _ _ _ _ _ ?_
    first | rfl | (simp (disch := decide) only [readAt_whole, readCov_whole]; done) | (simp (disch := decide) only [readAt_whole, readCov_whole]; rfl)

set_option maxHeartbeats 4000000 in
/-- A middle point: the next slab into its half of the buffer, the slab before it folded into the three running sums. -/
theorem body_mid (c : Dev nD) (E : Set ℕ) (i : grid0.Coords) (h1 : ¬ Scalar.cmpi .ne (Scalar.extui (Scalar.cmpi .eq (BitVec.ofNat 32 (i 0).val) 0#32)) (0#32 : BitVec 32) = 1#1)
    (h2 : k0_cond2 i = 1#1) (h3 : k0_cond3 i = 1#1) (h4 : ¬ k0_cond4 i = 1#1)
    (hoff : (k0_off1 i = ![0, 0, 0] ∧ k0_off2 i = ![1, 0, 0]) ∨ (k0_off1 i = ![1, 0, 0] ∧ k0_off2 i = ![0, 0, 0]))
    (x9 : Vec F S1024x1 .i32) (x10 : Vec F S256x1024 .f32) (x13 : Vec F S1024x256 .bf16) (x14 : Vec F S1024x128 .f32) (x15 : Vec F S1024x128 .f32) (x16 : Vec F S1024x128 .f32) (x19 : Vec F S2x1024x1024 .f32) (K : PUnit → sProp 𝕄) :
    iprop(owns (c : Thread nD τ) arg9 fullShare x9 ∗ owns (c : Thread nD τ) arg10 fullShare x10 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg19 fullShare x19
        ∗ (iprop(owns (c : Thread nD τ) arg9 fullShare x9
          ∗ owns (c : Thread nD τ) arg10 fullShare x10
          ∗ owns (c : Thread nD τ) arg13 fullShare x13
          ∗ owns (c : Thread nD τ) arg14 fullShare (k0_pay30 (View.ld x19 (Rect.unit (s := S2x1024x1024) (k0_off2 i) S1x1024x1024.size (k0_off2_inb i h3))) x14)
          ∗ owns (c : Thread nD τ) arg15 fullShare (k0_pay8 x15 (k0_pay31 (View.ld x19 (Rect.unit (s := S2x1024x1024) (k0_off2 i) S1x1024x1024.size (k0_off2_inb i h3)))) (k0_pay32 (View.ld x19 (Rect.unit (s := S2x1024x1024) (k0_off2 i) S1x1024x1024.size (k0_off2_inb i h3)))))
          ∗ owns (c : Thread nD τ) arg16 fullShare (k0_pay9 i x9 (k0_pay28 (View.ld x19 (Rect.unit (s := S2x1024x1024) (k0_off2 i) S1x1024x1024.size (k0_off2_inb i h3)))) x16)
          ∗ (∃ y : Vec F S2x1024x1024 .f32, ⌜View.ld y (Rect.unit (s := S2x1024x1024) (k0_off1 i) S1x1024x1024.size (k0_off1_inb i h2)) = k0_pay6 x13 x10⌝ ∗ owns (c : Thread nD τ) arg19 fullShare y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f9, %hf9, H9⟩, ⟨%f10, %hf10, H10⟩, ⟨%f13, %hf13, H13⟩, ⟨%f14, %hf14, H14⟩, ⟨%f15, %hf15, H15⟩, ⟨%f16, %hf16, H16⟩, ⟨%f19, %hf19, H19⟩, Hk⟩
  subst hf9 hf10 hf13 hf14 hf15 hf16 hf19
  rcases hoff with ⟨ho1, ho2⟩ | ⟨ho1, ho2⟩
  all_goals
    letI : ClosedOff (k0_off1 i) := ⟨_, ho1⟩
    letI : ClosedOff (k0_off2 i) := ⟨_, ho2⟩
    sl_exec (disch := first | exact h1 | exact h2 | exact h3 | exact h4)
    sl_step
    iapply Hk
    isplitl [H9]
    · (iexists f9; isplitr; swap; iexact H9; ipureintro; rfl)
    isplitl [H10]
    · (iexists f10; isplitr; swap; iexact H10; ipureintro; rfl)
    isplitl [H13]
    · (iexists f13; isplitr; swap; iexact H13; ipureintro; rfl)
    isplitl [H14]
    · iexists _
      isplitr
      swap
      · iexact H14
      ipureintro
      sl_open_run
      refine read_store _ (by decide) _ _ _ _ ?_
      first | rfl | (simp (disch := decide) only [readAt_whole, readCov_whole]; done) | (simp (disch := decide) only [readAt_whole, readCov_whole]; rfl)
    isplitl [H15]
    · iexists _
      isplitr
      swap
      · iexact H15
      ipureintro
      sl_open_run
      refine read_store _ (by decide) _ _ _ _ ?_
      first | rfl | (simp (disch := decide) only [readAt_whole, readCov_whole]; done) | (simp (disch := decide) only [readAt_whole, readCov_whole]; rfl)
    isplitl [H16]
    · iexists _
      isplitr
      swap
      · iexact H16
      ipureintro
      sl_open_run
      refine read_store _ (by decide) _ _ _ _ ?_
      first | rfl | (simp (disch := decide) only [readAt_whole, readCov_whole]; done) | (simp (disch := decide) only [readAt_whole, readCov_whole]; rfl)
    · iexists _; isplitr
      swap; (iexists _; isplitr; swap; iexact H19; ipureintro; rfl)
      ipureintro
      sl_open_run
      refine ld_store _ _ _ _ _ ?_
      first | rfl | (simp (disch := decide) only [readAt_whole, readCov_whole]; done) | (simp (disch := decide) only [readAt_whole, readCov_whole]; rfl)

set_option maxHeartbeats 4000000 in
/-- The last point: the last slab, its padded columns masked, folded into the sums, and the two results. -/
theorem body_last (c : Dev nD) (E : Set ℕ) (i : grid0.Coords) (h1 : ¬ Scalar.cmpi .ne (Scalar.extui (Scalar.cmpi .eq (BitVec.ofNat 32 (i 0).val) 0#32)) (0#32 : BitVec 32) = 1#1)
    (h2 : ¬ k0_cond2 i = 1#1) (h3 : ¬ k0_cond3 i = 1#1) (h4 : k0_cond4 i = 1#1)
    (x9 : Vec F S1024x1 .i32) (x11 : Vec F S1024x1 .f32) (x12 : Vec F S1024x1 .f32) (x14 : Vec F S1024x128 .f32) (x15 : Vec F S1024x128 .f32) (x16 : Vec F S1024x128 .f32) (x17 : Vec F S1024x1 .f32) (x18 : Vec F S1024x1 .f32) (x19 : Vec F S2x1024x1024 .f32) (K : PUnit → sProp 𝕄) :
    iprop(owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
        ∗ (iprop(owns (c : Thread nD τ) arg9 fullShare x9
          ∗ owns (c : Thread nD τ) arg11 fullShare (k0_pay10 (k0_pay42 (k0_pay36 (Idealize.ShloMosaic.iota .tc S1024x1024 32 [1] iota_S1024x1024_d1_w32) (View.ld x19 (Rect.unit (s := S2x1024x1024) ![1, 0, 0] S1x1024x1024.size inb_S2x1024x1024_S1x1024x1024_1_0_0)) x14) (k0_pay39 (Idealize.ShloMosaic.iota .tc S1024x1024 32 [1] iota_S1024x1024_d1_w32) (k0_pay7 i x9) (k0_pay33 (View.ld x19 (Rect.unit (s := S2x1024x1024) ![1, 0, 0] S1x1024x1024.size inb_S2x1024x1024_S1x1024x1024_1_0_0))) x16)) x17)
          ∗ owns (c : Thread nD τ) arg12 fullShare (k0_pay11 (k0_pay41 (k0_pay36 (Idealize.ShloMosaic.iota .tc S1024x1024 32 [1] iota_S1024x1024_d1_w32) (View.ld x19 (Rect.unit (s := S2x1024x1024) ![1, 0, 0] S1x1024x1024.size inb_S2x1024x1024_S1x1024x1024_1_0_0)) x14)) (k0_pay43 (k0_pay36 (Idealize.ShloMosaic.iota .tc S1024x1024 32 [1] iota_S1024x1024_d1_w32) (View.ld x19 (Rect.unit (s := S2x1024x1024) ![1, 0, 0] S1x1024x1024.size inb_S2x1024x1024_S1x1024x1024_1_0_0)) x14) (k0_pay38 (k0_pay37 (Idealize.ShloMosaic.iota .tc S1024x1024 32 [1] iota_S1024x1024_d1_w32) (View.ld x19 (Rect.unit (s := S2x1024x1024) ![1, 0, 0] S1x1024x1024.size inb_S2x1024x1024_S1x1024x1024_1_0_0)) x15))) x18)
          ∗ owns (c : Thread nD τ) arg14 fullShare (k0_pay36 (Idealize.ShloMosaic.iota .tc S1024x1024 32 [1] iota_S1024x1024_d1_w32) (View.ld x19 (Rect.unit (s := S2x1024x1024) ![1, 0, 0] S1x1024x1024.size inb_S2x1024x1024_S1x1024x1024_1_0_0)) x14)
          ∗ owns (c : Thread nD τ) arg15 fullShare (k0_pay38 (k0_pay37 (Idealize.ShloMosaic.iota .tc S1024x1024 32 [1] iota_S1024x1024_d1_w32) (View.ld x19 (Rect.unit (s := S2x1024x1024) ![1, 0, 0] S1x1024x1024.size inb_S2x1024x1024_S1x1024x1024_1_0_0)) x15))
          ∗ owns (c : Thread nD τ) arg16 fullShare (k0_pay39 (Idealize.ShloMosaic.iota .tc S1024x1024 32 [1] iota_S1024x1024_d1_w32) (k0_pay7 i x9) (k0_pay33 (View.ld x19 (Rect.unit (s := S2x1024x1024) ![1, 0, 0] S1x1024x1024.size inb_S2x1024x1024_S1x1024x1024_1_0_0))) x16)
          ∗ owns (c : Thread nD τ) arg17 fullShare x17
          ∗ owns (c : Thread nD τ) arg18 fullShare x18
          ∗ owns (c : Thread nD τ) arg19 fullShare x19) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f9, %hf9, H9⟩, ⟨%f11, %hf11, H11⟩, ⟨%f12, %hf12, H12⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf9 hf11 hf12 hf14 hf15 hf16 hf17 hf18 hf19
  sl_exec (disch := first | exact h1 | exact h2 | exact h3 | exact h4)
  sl_step
  iapply Hk
  isplitl [H9]
  · (iexists f9; isplitr; swap; iexact H9; ipureintro; rfl)
  isplitl [H11]
  · iexists _
    isplitr
    swap
    · iexact H11
    ipureintro
    sl_open_run
    refine read_store _ (by decide) _ _ _ _ ?_
    first | rfl | (simp (disch := decide) only [readAt_whole, readCov_whole]; done) | (simp (disch := decide) only [readAt_whole, readCov_whole]; rfl)
  isplitl [H12]
  · iexists _
    isplitr
    swap
    · iexact H12
    ipureintro
    sl_open_run
    refine read_store _ (by decide) _ _ _ _ ?_
    first | rfl | (simp (disch := decide) only [readAt_whole, readCov_whole]; done) | (simp (disch := decide) only [readAt_whole, readCov_whole]; rfl)
  isplitl [H14]
  · iexists _
    isplitr
    swap
    · iexact H14
    ipureintro
    sl_open_run
    refine read_store _ (by decide) _ _ _ _ ?_
    first | rfl | (simp (disch := decide) only [readAt_whole, readCov_whole]; done) | (simp (disch := decide) only [readAt_whole, readCov_whole]; rfl)
  isplitl [H15]
  · iexists _
    isplitr
    swap
    · iexact H15
    ipureintro
    sl_open_run
    refine read_store _ (by decide) _ _ _ _ ?_
    first | rfl | (simp (disch := decide) only [readAt_whole, readCov_whole]; done) | (simp (disch := decide) only [readAt_whole, readCov_whole]; rfl)
  isplitl [H16]
  · iexists _
    isplitr
    swap
    · iexact H16
    ipureintro
    sl_open_run
    refine read_store _ (by decide) _ _ _ _ ?_
    first | rfl | (simp (disch := decide) only [readAt_whole, readCov_whole]; done) | (simp (disch := decide) only [readAt_whole, readCov_whole]; rfl)
  isplitl [H17]
  · (iexists f17; isplitr; swap; iexact H17; ipureintro; rfl)
  isplitl [H18]
  · (iexists f18; isplitr; swap; iexact H18; ipureintro; rfl)
  · (iexists f19; isplitr; swap; iexact H19; ipureintro; rfl)

end Cert.Proof.IdealBody
end
-- ==== Proof.KernelIdealFrame.lean ====
/-
The frame of the idealized program: from any memory every execution terminates, leaves the ten argument
arrays as they were, and leaves every semaphore counter at zero. What the kernel leaves in its two results is
not named here: the two output windows are forgotten.
-/
module

public import proofs.«01_k».proof.Proof.KernelIdealBody

@[expose] public section

set_option maxRecDepth 16384

noncomputable section

namespace Cert.Proof.IdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F] [Named F]

local notation "𝕄" => MT nD τ sig Unit (Elt F) ℕ (UR sig nD τ) ℕ

section

variable (arg1 : Memref sig .tc .vmem S1024x128 .f32) (harg1 : arg1.IsWhole)
  (arg2 : Memref sig .tc .vmem S1024x1 .f32) (harg2 : arg2.IsWhole)
  (arg3 : Memref sig .tc .vmem S128x256 .f32) (harg3 : arg3.IsWhole)
  (arg4 : Memref sig .tc .vmem S1x256 .f32) (harg4 : arg4.IsWhole)
  (arg5 : Memref sig .tc .vmem S256x1024 .f32) (harg5 : arg5.IsWhole)
  (arg6 : Memref sig .tc .vmem S1024x256 .f32) (harg6 : arg6.IsWhole)
  (arg7 : Memref sig .tc .vmem S256x1 .f32) (harg7 : arg7.IsWhole)
  (arg8 : Memref sig .tc .vmem S1024x1 .i32) (harg8 : arg8.IsWhole)
  (arg9 : Memref sig .tc .vmem S1024x1 .i32) (harg9 : arg9.IsWhole)
  (arg10 : Memref sig .tc .vmem S256x1024 .f32) (harg10 : arg10.IsWhole)
  (arg11 : Memref sig .tc .vmem S1024x1 .f32) (harg11 : arg11.IsWhole)
  (arg12 : Memref sig .tc .vmem S1024x1 .f32) (harg12 : arg12.IsWhole)
  (arg13 : Memref sig .tc .vmem S1024x256 .bf16) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1024x128 .f32) (harg16 : arg16.IsWhole)
  (arg17 : Memref sig .tc .vmem S1024x1 .f32) (harg17 : arg17.IsWhole)
  (arg18 : Memref sig .tc .vmem S1024x1 .f32) (harg18 : arg18.IsWhole)
  (arg19 : Memref sig .tc .vmem S2x1024x1024 .f32) (harg19 : arg19.IsWhole)

/-! ## Any point -/

/-- Which of the three runs grid point `i` takes: the first, a middle one (its two slabs the two halves of the buffer) or the last. -/
def Kind3 (i : grid0.Coords) : Prop :=
  ((Scalar.cmpi .ne (Scalar.extui (Scalar.cmpi .eq (BitVec.ofNat 32 (i 0).val) 0#32)) (0#32 : BitVec 32) = 1#1) ∧ k0_cond2 i = 1#1 ∧ (¬ k0_cond3 i = 1#1) ∧ ¬ k0_cond4 i = 1#1)
  ∨ ((¬ Scalar.cmpi .ne (Scalar.extui (Scalar.cmpi .eq (BitVec.ofNat 32 (i 0).val) 0#32)) (0#32 : BitVec 32) = 1#1) ∧ k0_cond2 i = 1#1 ∧ k0_cond3 i = 1#1 ∧ (¬ k0_cond4 i = 1#1)
      ∧ ((k0_off1 i = ![0, 0, 0] ∧ k0_off2 i = ![1, 0, 0]) ∨ (k0_off1 i = ![1, 0, 0] ∧ k0_off2 i = ![0, 0, 0])))
  ∨ ((¬ Scalar.cmpi .ne (Scalar.extui (Scalar.cmpi .eq (BitVec.ofNat 32 (i 0).val) 0#32)) (0#32 : BitVec 32) = 1#1) ∧ (¬ k0_cond2 i = 1#1) ∧ (¬ k0_cond3 i = 1#1) ∧ k0_cond4 i = 1#1)

instance (i : grid0.Coords) : Decidable (Kind3 i) := by unfold Kind3; infer_instance

/-- Every grid point is of one of the three kinds. -/
theorem kind3 : ∀ t : Fin grid0.N, Kind3 (grid0.coords t) := by decide +kernel

/-- At any point the body leaves its ten inputs as they were, and every other buffer at some contents. -/
theorem body_any (c : Dev nD) (E : Set ℕ) (i : grid0.Coords) (hi : Kind3 i)
    (x1 : Vec F S1024x128 .f32) (x2 : Vec F S1024x1 .f32) (x3 : Vec F S128x256 .f32) (x4 : Vec F S1x256 .f32) (x5 : Vec F S256x1024 .f32) (x6 : Vec F S1024x256 .f32) (x7 : Vec F S256x1 .f32) (x8 : Vec F S1024x1 .i32) (x9 : Vec F S1024x1 .i32) (x10 : Vec F S256x1024 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ (∃ y, owns (c : Thread nD τ) arg11 fullShare y)
        ∗ (∃ y, owns (c : Thread nD τ) arg12 fullShare y)
        ∗ (∃ y, owns (c : Thread nD τ) arg13 fullShare y)
        ∗ (∃ y, owns (c : Thread nD τ) arg14 fullShare y)
        ∗ (∃ y, owns (c : Thread nD τ) arg15 fullShare y)
        ∗ (∃ y, owns (c : Thread nD τ) arg16 fullShare y)
        ∗ (∃ y, owns (c : Thread nD τ) arg17 fullShare y)
        ∗ (∃ y, owns (c : Thread nD τ) arg18 fullShare y)
        ∗ (∃ y, owns (c : Thread nD τ) arg19 fullShare y)
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ y, owns (c : Thread nD τ) arg11 fullShare y)
          ∗ (∃ y, owns (c : Thread nD τ) arg12 fullShare y)
          ∗ (∃ y, owns (c : Thread nD τ) arg13 fullShare y)
          ∗ (∃ y, owns (c : Thread nD τ) arg14 fullShare y)
          ∗ (∃ y, owns (c : Thread nD τ) arg15 fullShare y)
          ∗ (∃ y, owns (c : Thread nD τ) arg16 fullShare y)
          ∗ (∃ y, owns (c : Thread nD τ) arg17 fullShare y)
          ∗ (∃ y, owns (c : Thread nD τ) arg18 fullShare y)
          ∗ (∃ y, owns (c : Thread nD τ) arg19 fullShare y)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H1, H2, H3, H4, H5, H6, H7, H8, H9, H10, ⟨%x11, H11⟩, ⟨%x12, H12⟩, ⟨%x13, H13⟩, ⟨%x14, H14⟩, ⟨%x15, H15⟩, ⟨%x16, H16⟩, ⟨%x17, H17⟩, ⟨%x18, H18⟩, ⟨%x19, H19⟩, Hk⟩
  rcases hi with ⟨h1, h2, h3, h4⟩ | ⟨h1, h2, h3, h4, hoff⟩ | ⟨h1, h2, h3, h4⟩
  · iapply (IdealBody.body_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c E i h1 h2 h3 h4 x1 x2 x3 x4 x5 x6 x7 x8 x9 x10 x13 x14 x15 x16 x17 x18 x19 K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, H13, H14, H15, H16, H17, H18, ⟨%y19, %hy, H19⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · iapply (IdealBody.body_mid arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c E i h1 h2 h3 h4 hoff x9 x10 x13 x14 x15 x16 x19 K)
    isplitl [H9]; · iexact H9
    isplitl [H10]; · iexact H10
    isplitl [H13]; · iexact H13
    isplitl [H14]; · iexact H14
    isplitl [H15]; · iexact H15
    isplitl [H16]; · iexact H16
    isplitl [H19]; · iexact H19
    iintro ⟨H9, H10, H13, H14, H15, H16, ⟨%y19, %hy, H19⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · iapply (IdealBody.body_last arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c E i h1 h2 h3 h4 x9 x11 x12 x14 x15 x16 x17 x18 x19 K)
    isplitl [H9]; · iexact H9
    isplitl [H11]; · iexact H11
    isplitl [H12]; · iexact H12
    isplitl [H14]; · iexact H14
    isplitl [H15]; · iexact H15
    isplitl [H16]; · iexact H16
    isplitl [H17]; · iexact H17
    isplitl [H18]; · iexact H18
    isplitl [H19]; · iexact H19
    iintro ⟨H9, H11, H12, H14, H15, H16, H17, H18, H19⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end

variable (m : (ℓ : Loc nD τ sig) → Buf (Elt F) ℓ) (ρ : Dev nD → PrngReg)

/-- The two output windows, whose contents nothing here names. -/
def fgt : Fin cfg0.W → Bool := fun w => decide (w = 10 ∨ w = 11)

/-- The proof data: the arrays as the region finds them, each input's buffer left at its block (the last block of
    the wide weights, which overhangs its array, filled out with zeros), the outputs at zeros (forgotten). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (cfg0.win 9).fill (cfg0.grid.coords t) (fun _ => Scalar.ofBits .f32 0#32) (iblk m c 9 t)
    | ⟨10, _⟩ => fun _ => Scalar.ofBits .f32 0#32
    | ⟨11, _⟩ => fun _ => Scalar.ofBits .f32 0#32
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = (cfg0.win 9).fill (cfg0.grid.coords t) (fun _ => Scalar.ofBits .f32 0#32) (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The wide weights' buffer holds its block at every point, filled out past the array's end with anything. -/
theorem before_9 (c : Dev nD) (t : Fin cfg0.N) (d) : (dats m 0 c).before 9 t d
    = (cfg0.win 9).fill (cfg0.grid.coords t) d (iblk m c 9 t) := by
  rw [(dats m 0 c).before_in_eq_fetched 9 rfl (fun _ => rfl)
    (fun t t' h => by
      funext a
      exact congrArg (fun n => Pipeline.Clip.of n (S256x1024.size a) (S256x100000.size a)) (congrFun h a))
    (fun t => by rw [after_9, Pipeline.Window.cut_fill]; unfold Dat.blockOf iblk; rw [A_eq])]
  unfold Dat.fetched Dat.blockOf iblk; rw [A_eq]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- A buffer at some contents is the whole memref of it owned at some contents. -/
theorem ex_owns (c : Dev nD) (b : Ref sig .tc) :
    (iprop(∃ y, owns (c : Thread nD τ) (Memref.whole b) fullShare y) : sProp 𝕄)
      = iprop(∃ f : Buf (Elt F) ((c : Thread nD τ).loc b), ((c : Thread nD τ).loc b) ↦{fullShare} f) := by
  simp only [owns_whole_eq]
  have h1 : (iprop(∃ y, ∃ f : Buf (Elt F) ((c : Thread nD τ).loc b), ⌜f = y⌝ ∗ ((c : Thread nD τ).loc b) ↦{fullShare} f) : sProp 𝕄)
      ⊢ iprop(∃ f : Buf (Elt F) ((c : Thread nD τ).loc b), ((c : Thread nD τ).loc b) ↦{fullShare} f) := by
    iintro ⟨%y, %f, %hf, H⟩; iexists f; iexact H
  have h2 : (iprop(∃ f : Buf (Elt F) ((c : Thread nD τ).loc b), ((c : Thread nD τ).loc b) ↦{fullShare} f) : sProp 𝕄)
      ⊢ iprop(∃ y, ∃ f : Buf (Elt F) ((c : Thread nD τ).loc b), ⌜f = y⌝ ∗ ((c : Thread nD τ).loc b) ↦{fullShare} f) := by
    iintro ⟨%f, H⟩; iexists f; iexists f; isplitr; · ipureintro; rfl
    iexact H
  exact Idealize.SL.BI.Entails.antisymm h1 h2

/-- The region's scratch, each buffer the whole memref of it. -/
theorem scratch_eq (c : Dev nD) : (Pipeline.scopedRest (Ix := Unit) (Name := ℕ) (U := UR sig nD τ) (Lvl := ℕ) (Val := Elt F) spec0 c : sProp 𝕄)
    = iprop((∃ y, owns (c : Thread nD τ) (Memref.whole cc0_scratch0) fullShare y) ∗ (∃ y, owns (c : Thread nD τ) (Memref.whole cc0_scratch1) fullShare y) ∗ (∃ y, owns (c : Thread nD τ) (Memref.whole cc0_scratch2) fullShare y) ∗ (∃ y, owns (c : Thread nD τ) (Memref.whole cc0_scratch3) fullShare y) ∗ (∃ y, owns (c : Thread nD τ) (Memref.whole cc0_scratch4) fullShare y) ∗ (∃ y, owns (c : Thread nD τ) (Memref.whole cc0_scratch5) fullShare y) ∗ (∃ y, owns (c : Thread nD τ) (Memref.whole cc0_scratch6) fullShare y)) := by
  rw [scopedRest0_eq]; simp only [ex_owns]

/-- The body's obligation at every point, the outputs forgotten. -/
theorem body_obligation (c : Dev nD) :
    BodyObligationLoose (dats (F := F) m 0 c) (defs₀ (F := F)) Variants.none () Set.univ fgt := fun t => by
  rw [bigSep_W0, bigSep_W0, defs₀_row]
  simp only [before_0, before_1, before_2, before_3, before_4, before_5, before_6, before_7, before_8, before_9,
    after_0, after_1, after_2, after_3, after_4, after_5, after_6, after_7, after_8, after_9, Pipeline.Window.cut_fill,
    show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = true from rfl, show fgt 11 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scratch_eq]
  iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (body_any (F := F) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6)
    c Set.univ (grid0.coords t) (kind3 t) _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, S0, S1, S2, S3, S4, S5, S6⟩
  isplitl [S0 S1 S2 S3 S4 S5 S6 Hp]
  · isplitr [Hp]
    · isplitl [S0]; · iexact S0
      isplitl [S1]; · iexact S1
      isplitl [S2]; · iexact S2
      isplitl [S3]; · iexact S3
      isplitl [S4]; · iexact S4
      isplitl [S5]; · iexact S5
      iexact S6
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  iexact H11

set_option backward.isDefEq.respectTransparency.types false in
/-- Every execution from any memory terminates, leaves the ten argument arrays as they were and every semaphore
    counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
) ∧ r.2.sem = fun _ => 0) := by
  refine Pipeline.θ_run_frame_forget cfgs (dats m) (0 : Fin 1) launch0 defs₀ Variants.none fgt m ρ main
    (hbody := body_obligation m) (hshare := fun c => (dats m 0 c).share_full fun _ => rfl) (howed := fun _ _ => rfl)
    (V := V m) (hmain := hmain m Variants.none) (hA := A_eq m) (hΦ := fun _ _ => rfl) (Q' := _) ?_
  rintro r ⟨h, hs⟩
  refine ⟨fun c => ?_, hs⟩
  have rest := (h c).2
  exact ⟨(h.arr_in c 0 rfl).trans ((A_eq m c 0).trans (V_main_arg0 m c)),
    (rest main_arg1 (Pipeline.mem_restRefs_of main_arg1 (by decide) (by decide))).trans (V_main_arg1 m c),
    (h.arr_in c 2 rfl).trans ((A_eq m c 2).trans (V_main_arg2 m c)),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c),
    (h.arr_in c 9 rfl).trans ((A_eq m c 9).trans (V_main_arg6 m c)),
    (rest main_arg7 (Pipeline.mem_restRefs_of main_arg7 (by decide) (by decide))).trans (V_main_arg7 m c),
    (rest main_arg8 (Pipeline.mem_restRefs_of main_arg8 (by decide) (by decide))).trans (V_main_arg8 m c),
    (rest main_arg9 (Pipeline.mem_restRefs_of main_arg9 (by decide) (by decide))).trans (V_main_arg9 m c)⟩

end Cert.Proof.IdealFrame
end
-- ==== Proof.Frames.lean ====
/-
The claims that say nothing of the results: the three frames, and that the idealized program differs from the
compiled one by its named constants only.
-/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

namespace Cert.Proof.Frames

open Idealize.ShloMosaic Idealize.ShloMosaic.TcCoe Idealize.SL.Sem

/-- The program as compiled terminates, leaves its arguments and every semaphore counter at zero. -/
theorem kernel : Cert.quiescent_Kernel (hKernel := Cert.Kernel.Gen.facts) := fun m g _ => WordFrame.frame (F := Bits) m g

/-- The idealized program terminates, leaves its arguments and every semaphore counter at zero. -/
theorem kernelIdeal : Cert.quiescent_KernelIdeal (hKernelIdeal := Cert.KernelIdeal.Gen.facts) := fun m g _ =>
  IdealFrame.frame (F := Ideal) m g

/-- The reference terminates, leaves its arguments and every semaphore counter at zero. -/
theorem referenceIdeal : Cert.quiescent_ReferenceIdeal (hReferenceIdeal := Cert.ReferenceIdeal.Gen.facts) := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

/-- The three named constants are the values the certificate's table gives them. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

end Cert.Proof.Frames

end
-- ==== Proof.IdealPay.lean ====
/-
What each payload of the idealized body computes at one index, as a number: the contractions as sums over the
contracted axis, the eight slices of 128 lanes as one sum of eight terms (`lanes`), the selects as tests.
-/
module

public import proofs.«01_k».proof.Proof.KernelIdealFrame
public import Idealize.ShloMosaic.Lib.Claim
public import Idealize.ShloMosaic.Lib.Pointwise

@[expose] public section

set_option maxRecDepth 16384

noncomputable section

namespace Cert.Proof.IdealPay

open Cert.KernelIdeal Cert.KernelIdeal.Gen
open Idealize.ShloMosaic Idealize.ShloMosaic.TcCoe Idealize.ShloMosaic.Tactic

/-- The eight entries of a row of 1024 that fall on lane `l` of 128, added in order. -/
def lanes (f : Fin 1024 → EReal) (l : Fin 128) : EReal :=
  f ⟨l.val, by omega⟩ + f ⟨128 + l.val, by omega⟩ + f ⟨256 + l.val, by omega⟩ + f ⟨384 + l.val, by omega⟩
    + f ⟨512 + l.val, by omega⟩ + f ⟨640 + l.val, by omega⟩ + f ⟨768 + l.val, by omega⟩ + f ⟨896 + l.val, by omega⟩

theorem sel_eq {α : Type} (a b : BitVec 32) (x y : α) :
    Scalar.select (IntOp.cmpi .eq a b) x y = if a = b then x else y := by
  rw [WordCmp.cmpi_eq_eq]; unfold Scalar.select
  by_cases h : a = b <;> simp [h]

theorem sel_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]; unfold Scalar.select
  by_cases h : a < b <;> simp [h]

/-- The value of the mask: the bottom of the extended reals. -/
theorem mask_eq : (Named.named (F := Ideal) κ "mask" 0xF149F2CA#32 : Ideal .f32) = (⊥ : EReal) :=
  IdealRules.named_const.ideal_named_scalar _ _ _ _ rfl
theorem log2e_eq : (Named.named (F := Ideal) κ "log2e" 0x3FB8AA3B#32 : Ideal .f32) = (((Real.log 2)⁻¹ : ℝ) : EReal) :=
  IdealRules.named_const.ideal_named_scalar _ _ _ _ rfl
theorem ln2_eq : (Named.named (F := Ideal) κ "ln2" 0x3F317218#32 : Ideal .f32) = ((Real.log 2 : ℝ) : EReal) :=
  IdealRules.named_const.ideal_named_scalar _ _ _ _ rfl

variable (x1 : Vec Ideal S1024x128 .f32) (x2 : Vec Ideal S1024x1 .f32) (x3 : Vec Ideal S128x256 .f32) (x4 : Vec Ideal S1x256 .f32) (x5 : Vec Ideal S256x1024 .f32) (x6 : Vec Ideal S1024x256 .f32) (x7 : Vec Ideal S256x1 .f32) (x8 : Vec Ideal S1024x1 .i32)

theorem pay6_apply (h : Vec Ideal S1024x256 .bf16) (x : Vec Ideal S256x1024 .f32) (a : Fin 1) (r : Fin 1024) (j : Fin 1024) :
    k0_pay6 h x (ix3 a r j) = ∑ k : Fin 256, h (ix2 r k) * x (ix2 k j) := by
  pointwise [k0_pay6]

theorem pay12_apply (r : Fin 1024) (j : Fin 256) :
    k0_pay12 x1 x3 x4 (ix2 r j) = Ideal.tanh (∑ k : Fin 128, x1 (ix2 r k) * x3 (ix2 k j) + x4 (ix2 0 j)) := by
  pointwise [k0_pay12]

theorem pay14_apply (r : Fin 1024) (j : Fin 1024) :
    k0_pay14 x1 x3 x4 x5 (ix2 r j) = if j.val < 1000 then (∑ k : Fin 256, k0_pay12 x1 x3 x4 (ix2 r k) * x5 (ix2 k j)) else (⊥ : EReal) := by
  pointwise [k0_pay14]
  rw [mask_eq, sel_slt _ _ (by omega) (by omega)]

theorem pay16_apply (r : Fin 1024) :
    k0_pay16 x1 x3 x4 x5 (ix2 r 0) = ∑ j : Fin 1024, Ideal.exp (k0_pay14 x1 x3 x4 x5 (ix2 r j)) := by
  pointwise [k0_pay16, k0_pay15]

theorem pay18_apply (r : Fin 1024) :
    k0_pay18 x1 x3 x4 x8 x5 (ix2 r 0)
      = (∑ j : Fin 1024, if BitVec.ofNat 32 j.val = x8 (ix2 r 0) then k0_pay14 x1 x3 x4 x5 (ix2 r j) else 0)
        - Ideal.log (k0_pay16 x1 x3 x4 x5 (ix2 r 0)) := by
  pointwise [k0_pay18, k0_pay17, k0_pay13]
  simp only [sel_eq]

theorem pay19_apply (r : Fin 1024) :
    k0_pay19 x1 x3 x4 x5 (ix2 r 0) = Ideal.log (k0_pay16 x1 x3 x4 x5 (ix2 r 0))
      - Ideal.div (∑ j : Fin 1024, Ideal.exp (k0_pay14 x1 x3 x4 x5 (ix2 r j)) * k0_pay14 x1 x3 x4 x5 (ix2 r j)) (k0_pay16 x1 x3 x4 x5 (ix2 r 0)) := by
  pointwise [k0_pay19, k0_pay15, k0_pay17]

theorem pay20_apply (r j : Fin 1024) :
    k0_pay20 (F := Ideal) x8 (ix2 r j) = if BitVec.ofNat 32 j.val = x8 (ix2 r 0) then (1 : EReal) else 0 := by
  pointwise [k0_pay20, k0_pay13]
  rw [WordCmp.cmpi_eq_eq]
  by_cases h : BitVec.ofNat 32 j.val = x8 (ix2 r 0)
  · simp only [h, decide_true, if_true]; show (((BitVec.setWidth 32 (1#1)).toInt : ℝ) : EReal) = 1; norm_num
  · simp only [h, decide_false, if_false]; show (((BitVec.setWidth 32 (0#1)).toInt : ℝ) : EReal) = 0; norm_num

section
variable (v28 : FVec Ideal S1024x256 .f32) (v61 : FVec Ideal S1024x1024 .bf16) (r : Fin 1024)

theorem pay21_apply (j : Fin 256) :
    k0_pay21 v28 v61 x6 (ix2 r j) = Ideal.tanh (v28 (ix2 r j) + ∑ k : Fin 1024, v61 (ix2 r k) * x6 (ix2 k j)) := by
  pointwise [k0_pay21]

theorem pay22_apply (j : Fin 256) :
    k0_pay22 v28 v61 x6 (ix2 r j) = k0_pay21 v28 v61 x6 (ix2 r j) * (((Real.log 2)⁻¹ : ℝ) : EReal) := by
  pointwise [k0_pay22]
  rw [log2e_eq]

theorem pay23_apply :
    k0_pay23 v28 v61 x6 x7 (ix2 r 0) = ∑ k : Fin 256, k0_pay21 v28 v61 x6 (ix2 r k) * x7 (ix2 k 0) := by
  pointwise [k0_pay23]

theorem pay24_apply :
    k0_pay24 v28 v61 x6 x7 (ix2 r 0) =
      if 0 ≤ k0_pay23 v28 v61 x6 x7 (ix2 r 0) then
        0 - Ideal.log (1 + Ideal.exp (0 - max (k0_pay23 v28 v61 x6 x7 (ix2 r 0)) (-k0_pay23 v28 v61 x6 x7 (ix2 r 0))))
      else
        k0_pay23 v28 v61 x6 x7 (ix2 r 0)
          - Ideal.log (1 + Ideal.exp (0 - max (k0_pay23 v28 v61 x6 x7 (ix2 r 0)) (-k0_pay23 v28 v61 x6 x7 (ix2 r 0)))) := by
  pointwise [k0_pay24]
  rfl

theorem pay26_apply :
    k0_pay26 v28 v61 x6 x7 x2 (ix2 r 0) = x2 (ix2 r 0) * k0_pay24 v28 v61 x6 x7 (ix2 r 0)
      + (1 - x2 (ix2 r 0)) * (k0_pay24 v28 v61 x6 x7 (ix2 r 0) - k0_pay23 v28 v61 x6 x7 (ix2 r 0)) := by
  pointwise [k0_pay26, k0_pay25]

theorem pay27_apply :
    k0_pay27 v28 v61 x6 x7 (ix2 r 0)
      = Ideal.exp (k0_pay24 v28 v61 x6 x7 (ix2 r 0)) * k0_pay24 v28 v61 x6 x7 (ix2 r 0)
        + (1 - Ideal.exp (k0_pay24 v28 v61 x6 x7 (ix2 r 0)))
          * (k0_pay24 v28 v61 x6 x7 (ix2 r 0) - k0_pay23 v28 v61 x6 x7 (ix2 r 0)) := by
  pointwise [k0_pay27, k0_pay25]

end

theorem pay1_apply (a b : FVec Ideal S1024x1 .f32) (r : Fin 1024) : k0_pay1 a b (ix2 r 0) = a (ix2 r 0) + b (ix2 r 0) := by
  pointwise [k0_pay1]

theorem pay2_apply (a b : FVec Ideal S1024x1 .f32) (r : Fin 1024) :
    k0_pay2 a b (Scalar.ofBits .f32 0#32) (ix2 r 0) = a (ix2 r 0) + (0 - b (ix2 r 0)) := by
  pointwise [k0_pay2]

section
variable (y : Vec Ideal S1x1024x1024 .f32) (s : Vec Ideal S1024x128 .f32) (r : Fin 1024) (l : Fin 128)

theorem pay3_apply : k0_pay3 (F := Ideal) (ix2 r l) = (0 : EReal) := by pointwise [k0_pay3]
theorem pay4_apply : k0_pay4 (F := Ideal) (ix2 r l) = (0 : EReal) := by pointwise [k0_pay4]
theorem pay5_apply : k0_pay5 (F := Ideal) (ix2 r l) = (0 : EReal) := by pointwise [k0_pay5]

theorem pay30_apply :
    k0_pay30 y s (ix2 r l) = s (ix2 r l) + lanes (fun j => Ideal.exp2 (y (ix3 0 r j))) l := by
  pointwise [k0_pay30, k0_pay29, k0_pay28]
  rfl

theorem pay8_apply :
    k0_pay8 s (k0_pay31 y) (k0_pay32 y) (ix2 r l)
      = s (ix2 r l) + lanes (fun j => Ideal.exp2 (y (ix3 0 r j)) * y (ix3 0 r j)) l := by
  pointwise [k0_pay8, k0_pay31, k0_pay32, k0_pay29, k0_pay28]
  rfl

/-- The word a column of a block is compared with: the chosen category less the block's first column. -/
def relWord (i : grid0.Coords) (w : BitVec 32) : BitVec 32 :=
  IntOp.subi w (Scalar.muli (Scalar.subi (BitVec.ofNat 32 (i 0).val) 1#32) 1024#32)

theorem pay9_apply (i : grid0.Coords) :
    k0_pay9 i x8 (k0_pay28 y) s (ix2 r l)
      = s (ix2 r l) + lanes (fun j => if BitVec.ofNat 32 j.val = relWord i (x8 (ix2 r 0)) then y (ix3 0 r j) else 0) l := by
  pointwise [k0_pay9, k0_pay7, k0_pay28]
  simp only [sel_eq]
  rfl

/-- The columns' numbers, as the last point's body makes them. -/
abbrev cols : IVec S1024x1024 32 := Idealize.ShloMosaic.iota .tc S1024x1024 32 [1] iota_S1024x1024_d1_w32

theorem pay34_apply (j : Fin 1024) :
    k0_pay34 (F := Ideal) cols y (ix2 r j) = if j.val < 672 then y (ix3 0 r j) else (⊥ : EReal) := by
  pointwise [k0_pay34, k0_pay33]
  rw [mask_eq, sel_slt _ _ (by omega) (by omega)]

theorem pay36_apply :
    k0_pay36 cols y s (ix2 r l) = s (ix2 r l) + lanes (fun j => Ideal.exp2 (k0_pay34 (F := Ideal) cols y (ix2 r j))) l := by
  pointwise [k0_pay36, k0_pay35]
  rfl

theorem pay38_apply :
    k0_pay38 (k0_pay37 cols y s) (ix2 r l)
      = s (ix2 r l) + lanes (fun j => Ideal.exp2 (k0_pay34 (F := Ideal) cols y (ix2 r j)) * k0_pay34 (F := Ideal) cols y (ix2 r j)) l := by
  pointwise [k0_pay38, k0_pay37, k0_pay35]
  rfl

theorem pay39_apply (i : grid0.Coords) :
    k0_pay39 cols (k0_pay7 (F := Ideal) i x8) (k0_pay33 y) s (ix2 r l)
      = s (ix2 r l) + lanes (fun j => if BitVec.ofNat 32 j.val = relWord i (x8 (ix2 r 0)) then y (ix3 0 r j) else 0) l := by
  pointwise [k0_pay39, k0_pay7, k0_pay33]
  simp only [sel_eq]
  rfl

end

theorem out10_apply (S C : Vec Ideal S1024x128 .f32) (p : Vec Ideal S1024x1 .f32) (r : Fin 1024) :
    k0_pay10 (k0_pay42 S C) p (ix2 r 0)
      = p (ix2 r 0) + ((∑ l : Fin 128, C (ix2 r l)) * ((Real.log 2 : ℝ) : EReal) - Ideal.log (∑ l : Fin 128, S (ix2 r l))) := by
  pointwise [k0_pay10, k0_pay42, k0_pay41, k0_pay40]
  rw [ln2_eq]

theorem out11_apply (S T : Vec Ideal S1024x128 .f32) (p : Vec Ideal S1024x1 .f32) (r : Fin 1024) :
    k0_pay11 (k0_pay41 S) (k0_pay43 S T) p (ix2 r 0)
      = p (ix2 r 0) + (Ideal.log (∑ l : Fin 128, S (ix2 r l))
        - Ideal.div ((∑ l : Fin 128, T (ix2 r l)) * ((Real.log 2 : ℝ) : EReal)) (∑ l : Fin 128, S (ix2 r l))) := by
  pointwise [k0_pay11, k0_pay43, k0_pay41, k0_pay40]
  rw [ln2_eq]

end Cert.Proof.IdealPay

end
-- ==== Proof.IdealRun.lean ====
/-
The values of the idealized program's run. Point `t` of the 99 leaves in the scratch buffers the hidden layer, the
three running sums over the column blocks before `t`, the two terms of the first stages, and in one half of the
double buffer the products of block `t` of the wide weights; the last point adds the last block and writes the
results. The invariant says so; what the two result arrays hold afterwards is a function of the arguments.
-/
module

public import proofs.«01_k».proof.Proof.KernelIdealFrame
public import proofs.«01_k».proof.Proof.IdealPay
public import Idealize.ShloMosaic.Lib.Claim
public import Idealize.ShloMosaic.Lib.Pipeline.Value
public import Idealize.ShloMosaic.Lib.Pipeline.ValueKit

@[expose] public section

set_option maxRecDepth 16384

noncomputable section

namespace Cert.Proof.IdealRun

open Cert.KernelIdeal Cert.KernelIdeal.Gen Cert.Proof.IdealPay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the region computes, as functions of the arrays it finds -/

abbrev X1 (c : Dev nD) : Vec Ideal S1024x128 .f32 := V m c main_arg0
abbrev X2 (c : Dev nD) : Vec Ideal S1024x1 .f32 := V m c main_v6
abbrev X3 (c : Dev nD) : Vec Ideal S128x256 .f32 := V m c main_arg2
abbrev X4 (c : Dev nD) : Vec Ideal S1x256 .f32 := V m c main_v2
abbrev X5 (c : Dev nD) : Vec Ideal S256x1024 .f32 := V m c main_v0
abbrev X6 (c : Dev nD) : Vec Ideal S1024x256 .f32 := V m c main_v1
abbrev X7 (c : Dev nD) : Vec Ideal S256x1 .f32 := V m c main_v3
abbrev X8 (c : Dev nD) : Vec Ideal S1024x1 .i32 := V m c main_v4
abbrev X9 (c : Dev nD) : Vec Ideal S1024x1 .i32 := V m c main_v5
abbrev XW (c : Dev nD) : Vec Ideal S256x100000 .f32 := V m c main_arg6

/-- The hidden layer, times the base change to powers of two. -/
def H (c : Dev nD) : Vec Ideal S1024x256 .bf16 := k0_pay22 (k0_pay12 (X1 m c) (X3 m c) (X4 m c)) (k0_pay20 (X8 m c)) (X6 m c)
/-- The first stages' term of the log-probability. -/
def PLP (c : Dev nD) : Vec Ideal S1024x1 .f32 :=
  k0_pay1 (k0_pay18 (X1 m c) (X3 m c) (X4 m c) (X8 m c) (X5 m c)) (k0_pay26 (k0_pay12 (X1 m c) (X3 m c) (X4 m c)) (k0_pay20 (X8 m c)) (X6 m c) (X7 m c) (X2 m c))
/-- The first stages' term of the entropy. -/
def PENT (c : Dev nD) : Vec Ideal S1024x1 .f32 :=
  k0_pay2 (k0_pay19 (X1 m c) (X3 m c) (X4 m c) (X5 m c)) (k0_pay27 (k0_pay12 (X1 m c) (X3 m c) (X4 m c)) (k0_pay20 (X8 m c)) (X6 m c) (X7 m c)) (Scalar.ofBits .f32 0#32)

/-- Block `b` of the wide weights, zero past the array's end. -/
def wblk (c : Dev nD) (b : ℕ) : Vec Ideal S256x1024 .f32 := fun j =>
  if h : b * 1024 + (j 1 : ℕ) < 100000 then XW m c (ix2 ⟨j 0, (j 0).isLt⟩ ⟨b * 1024 + (j 1 : ℕ), h⟩) else (0 : EReal)
/-- The products of block `b`. -/
def Yb (c : Dev nD) (b : ℕ) : Vec Ideal S1x1024x1024 .f32 := k0_pay6 (H m c) (wblk m c b)
/-- The grid point after block `b`. -/
def pt (b : ℕ) : grid0.Coords := grid0.coords ⟨min (b + 1) 98, by show min (b + 1) 98 < 99; omega⟩
def foldS (c : Dev nD) : ℕ → Vec Ideal S1024x128 .f32
  | 0 => k0_pay3 (F := Ideal)
  | b + 1 => k0_pay30 (Yb m c b) (foldS c b)
def foldT (c : Dev nD) : ℕ → Vec Ideal S1024x128 .f32
  | 0 => k0_pay4 (F := Ideal)
  | b + 1 => k0_pay8 (foldT c b) (k0_pay31 (Yb m c b)) (k0_pay32 (Yb m c b))
def foldC (c : Dev nD) : ℕ → Vec Ideal S1024x128 .f32
  | 0 => k0_pay5 (F := Ideal)
  | b + 1 => k0_pay9 (pt b) (X9 m c) (k0_pay28 (Yb m c b)) (foldC c b)

def lastS (c : Dev nD) : Vec Ideal S1024x128 .f32 := k0_pay36 cols (Yb m c 97) (foldS m c 97)
def lastT (c : Dev nD) : Vec Ideal S1024x128 .f32 := k0_pay38 (k0_pay37 cols (Yb m c 97) (foldT m c 97))
def lastC (c : Dev nD) : Vec Ideal S1024x128 .f32 := k0_pay39 cols (k0_pay7 (F := Ideal) (pt 97) (X9 m c)) (k0_pay33 (Yb m c 97)) (foldC m c 97)
/-- The two results. -/
def OUT10 (c : Dev nD) : Vec Ideal S1024x1 .f32 := k0_pay10 (k0_pay42 (lastS m c) (lastC m c)) (PLP m c)
def OUT11 (c : Dev nD) : Vec Ideal S1024x1 .f32 := k0_pay11 (k0_pay41 (lastS m c)) (k0_pay43 (lastS m c) (lastT m c)) (PENT m c)

/-- The last part's categories are columns of the wide weights. -/
def CatOK (c : Dev nD) : Prop := ∀ r : Fin 1024, (X9 m c (ix2 r 0)).toNat < 100000

/-! ## The whole-array windows' blocks are their arrays -/

theorem idx_whole : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_10.index t = ![0, 0] ∧ win0_11.index t = ![0, 0] := by decide +kernel
theorem idx_9 : ∀ t : Fin cfg0.N, win0_9.index t = ![0, min t.val 97] := by decide +kernel

theorem iblk_0 (c : Dev nD) (t : Fin cfg0.N) : (iblk m c 0 t : Vec Ideal S1024x128 _) = X1 m c := by
  have e := idx_whole t
  funext j
  blk_ext [iblk, e]
theorem iblk_1 (c : Dev nD) (t : Fin cfg0.N) : (iblk m c 1 t : Vec Ideal S1024x1 _) = X2 m c := by
  have e := idx_whole t
  funext j
  blk_ext [iblk, e]
theorem iblk_2 (c : Dev nD) (t : Fin cfg0.N) : (iblk m c 2 t : Vec Ideal S128x256 _) = X3 m c := by
  have e := idx_whole t
  funext j
  blk_ext [iblk, e]
theorem iblk_3 (c : Dev nD) (t : Fin cfg0.N) : (iblk m c 3 t : Vec Ideal S1x256 _) = X4 m c := by
  have e := idx_whole t
  funext j
  blk_ext [iblk, e]
theorem iblk_4 (c : Dev nD) (t : Fin cfg0.N) : (iblk m c 4 t : Vec Ideal S256x1024 _) = X5 m c := by
  have e := idx_whole t
  funext j
  blk_ext [iblk, e]
theorem iblk_5 (c : Dev nD) (t : Fin cfg0.N) : (iblk m c 5 t : Vec Ideal S1024x256 _) = X6 m c := by
  have e := idx_whole t
  funext j
  blk_ext [iblk, e]
theorem iblk_6 (c : Dev nD) (t : Fin cfg0.N) : (iblk m c 6 t : Vec Ideal S256x1 _) = X7 m c := by
  have e := idx_whole t
  funext j
  blk_ext [iblk, e]
theorem iblk_7 (c : Dev nD) (t : Fin cfg0.N) : (iblk m c 7 t : Vec Ideal S1024x1 _) = X8 m c := by
  have e := idx_whole t
  funext j
  blk_ext [iblk, e]
theorem iblk_8 (c : Dev nD) (t : Fin cfg0.N) : (iblk m c 8 t : Vec Ideal S1024x1 _) = X9 m c := by
  have e := idx_whole t
  funext j
  blk_ext [iblk, e]

/-! ## The wide weights' blocks -/

theorem xsize_9 : ∀ t : Fin grid0.N, win0_9.xsize (grid0.coords t) (0 : Fin 2) = 256
    ∧ win0_9.xsize (grid0.coords t) (1 : Fin 2) = min 1024 (100000 - min t.val 97 * 1024) := by decide +kernel

/-- The buffer of point `t`'s block holds the block's entries wherever they are the array's. -/
theorem fill_9 (c : Dev nD) (t : Fin cfg0.N) (ht : t.val ≤ 97) (d) (j : S256x1024.Idx) (hj : t.val * 1024 + (j 1).val < 100000) :
    ((cfg0.win 9).fill (cfg0.grid.coords t) d (iblk m c 9 t) : Vec Ideal S256x1024 .f32) j = wblk m c t.val j := by
  have hx := xsize_9 t
  have h1 : (j 1).val < 1024 := (j 1).isLt
  have hm : (cfg0.win 9).moved (cfg0.grid.coords t) j = true := by
    rw [Pipeline.Window.moved_iff]; intro a
    match a with
    | ⟨0, _⟩ => show (j 0).val < win0_9.xsize (grid0.coords t) (0 : Fin 2); rw [hx.1]; exact (j 0).isLt
    | ⟨1, _⟩ => show (j 1).val < win0_9.xsize (grid0.coords t) (1 : Fin 2); rw [hx.2]; omega
  have e := idx_9 t
  unfold Pipeline.Window.fill
  rw [dif_pos hm]
  unfold wblk
  rw [dif_pos hj]
  have em : min t.val 97 = t.val := by omega
  blk_ext [iblk, e, em]

/-! ## The invariant -/

/-- After point `t = n - 1`: the buffers' contents, and the half of the double buffer holding the products of block `t`. -/
def Inv (c : Dev nD) (n : ℕ) (s0 : Vec Ideal S1024x256 .bf16) (s1 : Vec Ideal S1024x128 .f32) (s2 : Vec Ideal S1024x128 .f32) (s3 : Vec Ideal S1024x128 .f32) (s4 : Vec Ideal S1024x1 .f32) (s5 : Vec Ideal S1024x1 .f32) (s6 : Vec Ideal S2x1024x1024 .f32) : Prop :=
  ∀ t : ℕ, n = t + 1 → t ≤ 97 → s0 = H m c ∧ s1 = foldS m c t ∧ s2 = foldT m c t ∧ s3 = foldC m c t ∧ s4 = PLP m c ∧ s5 = PENT m c
    ∧ ∃ x10 : Vec Ideal S256x1024 .f32, (∀ j : S256x1024.Idx, t * 1024 + (j 1).val < 100000 → x10 j = wblk m c t j)
      ∧ ∀ (off : Fin 3 → ℕ) (h), off = ![t % 2, 0, 0]
        → View.ld s6 (Rect.unit (s := S2x1024x1024) off S1x1024x1024.size h) = k0_pay6 (H m c) x10

/-- The scratch at the invariant's contents, and the random state. -/
def Phi (c : Dev nD) (n : ℕ) : sProp 𝕄 :=
  iprop((∃ s0 : Vec Ideal S1024x256 .bf16, ∃ s1 : Vec Ideal S1024x128 .f32, ∃ s2 : Vec Ideal S1024x128 .f32, ∃ s3 : Vec Ideal S1024x128 .f32, ∃ s4 : Vec Ideal S1024x1 .f32, ∃ s5 : Vec Ideal S1024x1 .f32, ∃ s6 : Vec Ideal S2x1024x1024 .f32, ⌜Inv m c n s0 s1 s2 s3 s4 s5 s6⌝ ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5 ∗ owns (c : Thread nD τ) (Memref.whole cc0_scratch6) fullShare s6) ∗ ∃ r, prngReg c r)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (cfg0.win 9).fill (cfg0.grid.coords t) (fun _ => (0 : EReal)) (iblk m c 9 t)
    | ⟨10, _⟩ => OUT10 m c
    | ⟨11, _⟩ => OUT11 m c
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = (cfg0.win 9).fill (cfg0.grid.coords t) (fun _ => (0 : EReal)) (iblk m c 9 t) := by dsimp only [dats]
theorem after_10 (c : Dev nD) (t : Fin cfg0.N) : (dats m 0 c).after 10 t = OUT10 m c := by dsimp only [dats]
theorem after_11 (c : Dev nD) (t : Fin cfg0.N) : (dats m 0 c).after 11 t = OUT11 m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d
    = (cfg0.win 9).fill (cfg0.grid.coords t) d (iblk m c 9 t) := by
  rw [(dats m 0 c).before_in_eq_fetched 9 rfl (fun _ => rfl)
    (fun t t' h => by
      funext a
      exact congrArg (fun n => Pipeline.Clip.of n (S256x1024.size a) (S256x100000.size a)) (congrFun h a))
    (fun t => by rw [after_9, Pipeline.Window.cut_fill]; unfold Dat.blockOf iblk; rw [A_eq])]
  unfold Dat.fetched Dat.blockOf iblk; rw [A_eq]

/-! ## The points' kinds -/

theorem kind_at : ∀ t : Fin grid0.N,
    (t.val = 0 ∧ (Scalar.cmpi .ne (Scalar.extui (Scalar.cmpi .eq (BitVec.ofNat 32 ((grid0.coords t) 0).val) 0#32)) (0#32 : BitVec 32) = 1#1) ∧ k0_cond2 (grid0.coords t) = 1#1
      ∧ (¬ k0_cond3 (grid0.coords t) = 1#1) ∧ (¬ k0_cond4 (grid0.coords t) = 1#1) ∧ k0_off1 (grid0.coords t) = ![0, 0, 0]
      ∧ idle0 10 (grid0.coords t) = true ∧ idle0 11 (grid0.coords t) = true)
    ∨ (1 ≤ t.val ∧ t.val ≤ 97 ∧ (¬ Scalar.cmpi .ne (Scalar.extui (Scalar.cmpi .eq (BitVec.ofNat 32 ((grid0.coords t) 0).val) 0#32)) (0#32 : BitVec 32) = 1#1)
      ∧ k0_cond2 (grid0.coords t) = 1#1 ∧ k0_cond3 (grid0.coords t) = 1#1 ∧ (¬ k0_cond4 (grid0.coords t) = 1#1)
      ∧ ((k0_off1 (grid0.coords t) = ![0, 0, 0] ∧ k0_off2 (grid0.coords t) = ![1, 0, 0]) ∨ (k0_off1 (grid0.coords t) = ![1, 0, 0] ∧ k0_off2 (grid0.coords t) = ![0, 0, 0]))
      ∧ k0_off1 (grid0.coords t) = ![t.val % 2, 0, 0] ∧ k0_off2 (grid0.coords t) = ![(t.val - 1) % 2, 0, 0]
      ∧ idle0 10 (grid0.coords t) = true ∧ idle0 11 (grid0.coords t) = true)
    ∨ (t.val = 98 ∧ (¬ Scalar.cmpi .ne (Scalar.extui (Scalar.cmpi .eq (BitVec.ofNat 32 ((grid0.coords t) 0).val) 0#32)) (0#32 : BitVec 32) = 1#1)
      ∧ (¬ k0_cond2 (grid0.coords t) = 1#1) ∧ (¬ k0_cond3 (grid0.coords t) = 1#1) ∧ k0_cond4 (grid0.coords t) = 1#1
      ∧ idle0 10 (grid0.coords t) = false ∧ idle0 11 (grid0.coords t) = false) := by decide +kernel

theorem flush_10 : ∀ t : Fin grid0.N, t.val ≤ 97 → (cfg0.win 10).flush t = false := fun t h => by
  have := flush0_10 t
  cases hf : (cfg0.win 10).flush t
  · rfl
  · have := this.1 hf; omega
theorem flush_11 : ∀ t : Fin grid0.N, t.val ≤ 97 → (cfg0.win 11).flush t = false := fun t h => by
  have := flush0_11 t
  cases hf : (cfg0.win 11).flush t
  · rfl
  · have := this.1 hf; omega

theorem pt_val (b : ℕ) (h : b ≤ 97) : ((pt b) 0).val = b + 1 := by
  have e : ∀ t : Fin grid0.N, ((grid0.coords t) 0).val = t.val := by decide +kernel
  unfold pt; rw [e]; show min (b + 1) 98 = b + 1; omega

theorem pt_pred (t : Fin grid0.N) (h : 1 ≤ t.val) : pt (t.val - 1) = grid0.coords t := by
  have := t.isLt
  unfold pt; congr 1; apply Fin.ext; show min (t.val - 1 + 1) 98 = t.val
  have : t.val < 99 := t.isLt
  omega

/-! ## The last block -/

/-- A category of the wide weights is never one of the last block's columns past the array's end. -/
theorem rel_ne (w : BitVec 32) (hw : w.toNat < 100000) (i : grid0.Coords) (hi : (i 0).val = 98) (j : Fin 1024) (hj : 672 ≤ j.val) :
    BitVec.ofNat 32 j.val ≠ relWord i w := by
  intro h
  unfold relWord at h
  rw [hi] at h
  have h2 : BitVec.ofNat 32 j.val + 99328#32 = w := by
    rw [h]; show w - 99328#32 + 99328#32 = w; exact BitVec.sub_add_cancel w _
  have h3 := congrArg BitVec.toNat h2
  have : j.val < 1024 := j.isLt
  simp only [BitVec.toNat_add, BitVec.toNat_ofNat] at h3
  omega

section
variable (Y Y' : Vec Ideal S1x1024x1024 .f32) (hY : ∀ (r j : Fin 1024), j.val < 672 → Y (ix3 0 r j) = Y' (ix3 0 r j))
include hY

theorem tail_34 : k0_pay34 (F := Ideal) cols Y = k0_pay34 (F := Ideal) cols Y' := by
  funext k
  idx_vars k
  rw [pay34_apply, pay34_apply]
  split
  · rename_i hj; exact hY k0 k1 hj
  · rfl

theorem tail_36 (s) : k0_pay36 cols Y s = k0_pay36 cols Y' s := by
  funext k; idx_vars k
  rw [pay36_apply, pay36_apply, tail_34 Y Y' hY]
theorem tail_38 (s) : k0_pay38 (k0_pay37 cols Y s) = k0_pay38 (k0_pay37 cols Y' s) := by
  funext k; idx_vars k
  rw [pay38_apply, pay38_apply, tail_34 Y Y' hY]
theorem tail_39 (x8 : Vec Ideal S1024x1 .i32) (hc : ∀ r : Fin 1024, (x8 (ix2 r 0)).toNat < 100000) (i : grid0.Coords) (hi : (i 0).val = 98) (s) :
    k0_pay39 cols (k0_pay7 (F := Ideal) i x8) (k0_pay33 Y) s = k0_pay39 cols (k0_pay7 (F := Ideal) i x8) (k0_pay33 Y') s := by
  funext k; idx_vars k
  rw [pay39_apply, pay39_apply]
  congr 2
  funext j
  by_cases hj : j.val < 672
  · rw [hY k0 j hj]
  · rw [if_neg (rel_ne _ (hc k0) i hi j (by omega)), if_neg (rel_ne _ (hc k0) i hi j (by omega))]
end

/-! ## The body at each kind of point -/

set_option maxHeartbeats 4000000 in
theorem body_obligation (hc : ∀ c, CatOK m c) (c : Dev nD) :
    BodyObligationLoose (dats m 0 c) (defs₀ (F := Ideal)) Variants.none () Set.univ := fun t => by
  rcases kind_at t with ⟨h0, h1, h2, h3, h4, ho, i10, i11⟩ | ⟨g1, g2, h1, h2, h3, h4, hoff, ho1, ho2, i10, i11⟩ | ⟨g1, h1, h2, h3, h4, i10, i11⟩
  · skip
    rw [bigSep_W0, bigSep_W0, IdealFrame.defs₀_row]
    simp only [before_0, before_1, before_2, before_3, before_4, before_5, before_6, before_7, before_8, before_9,
      after_0, after_1, after_2, after_3, after_4, after_5, after_6, after_7, after_8, after_9, after_10, after_11, Pipeline.Window.cut_fill, i10, i11, flush_10 t (by omega), flush_11 t (by omega)]
    rw [Phi_castSucc, Phi_succ, show (dats m 0 c).owesAt () t.succ = (dats m 0 c).owesAt () t.castSucc from rfl]
    unfold Phi
    iintro ⟨⟨⟨%s0, %s1, %s2, %s3, %s4, %s5, %s6, %hinv, S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
    iapply (IdealBody.body_first (F := Ideal) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6)
      c Set.univ (grid0.coords t) h1 h2 h3 h4 _ _ _ _ _ _ _ _ _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, H8, H9, S0, S1, S2, S3, S4, S5, ⟨%y, %hy, S6⟩⟩
    have hnew : Inv m c (t.val + 1) (k0_pay22 (k0_pay12 (iblk m c 0 t) (iblk m c 2 t) (iblk m c 3 t)) (k0_pay20 (iblk m c 7 t)) (iblk m c 5 t)) (k0_pay3 (F := Ideal)) (k0_pay4 (F := Ideal)) (k0_pay5 (F := Ideal))
        (k0_pay1 (k0_pay18 (iblk m c 0 t) (iblk m c 2 t) (iblk m c 3 t) (iblk m c 7 t) (iblk m c 4 t)) (k0_pay26 (k0_pay12 (iblk m c 0 t) (iblk m c 2 t) (iblk m c 3 t)) (k0_pay20 (iblk m c 7 t)) (iblk m c 5 t) (iblk m c 6 t) (iblk m c 1 t)))
        (k0_pay2 (k0_pay19 (iblk m c 0 t) (iblk m c 2 t) (iblk m c 3 t) (iblk m c 4 t)) (k0_pay27 (k0_pay12 (iblk m c 0 t) (iblk m c 2 t) (iblk m c 3 t)) (k0_pay20 (iblk m c 7 t)) (iblk m c 5 t) (iblk m c 6 t)) (Scalar.ofBits .f32 0#32)) y := by
      rw [iblk_0, iblk_2, iblk_3, iblk_7, iblk_5] at hy
      rw [iblk_0, iblk_1, iblk_2, iblk_3, iblk_4, iblk_5, iblk_6, iblk_7]
      intro t' e ht'
      obtain rfl : t' = 0 := by omega
      refine ⟨rfl, rfl, rfl, rfl, rfl, rfl, ((cfg0.win 9).fill (cfg0.grid.coords t) d9 (iblk m c 9 t) : Vec Ideal S256x1024 .f32), fun j hj => ?_, fun off h e' => ?_⟩
      · have := fill_9 m c t (by omega) d9 j (by omega)
        rw [h0] at this; exact this
      · have : off = k0_off1 (grid0.coords t) := e'.trans ho.symm
        subst this
        exact hy
    isplitl [S0 S1 S2 S3 S4 S5 S6 Hp]
    · isplitr [Hp]
      · iexists _, _, _, _, _, _, _
        isplitr; swap
        · isplitl [S0]; · iexact S0
          isplitl [S1]; · iexact S1
          isplitl [S2]; · iexact S2
          isplitl [S3]; · iexact S3
          isplitl [S4]; · iexact S4
          isplitl [S5]; · iexact S5
          iexact S6
        ipureintro
        exact hnew
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [H10]; · iexact H10
    iexact H11
  · skip
    rw [bigSep_W0, bigSep_W0, IdealFrame.defs₀_row]
    simp only [before_0, before_1, before_2, before_3, before_4, before_5, before_6, before_7, before_8, before_9,
      after_0, after_1, after_2, after_3, after_4, after_5, after_6, after_7, after_8, after_9, after_10, after_11, Pipeline.Window.cut_fill, i10, i11, flush_10 t (by omega), flush_11 t (by omega)]
    rw [Phi_castSucc, Phi_succ, show (dats m 0 c).owesAt () t.succ = (dats m 0 c).owesAt () t.castSucc from rfl]
    unfold Phi
    iintro ⟨⟨⟨%s0, %s1, %s2, %s3, %s4, %s5, %s6, %hinv, S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
    obtain ⟨e0, e1, e2, e3, e4, e5, x10, hx, hld⟩ := hinv (t.val - 1) (by omega) (by omega)
    obtain rfl : x10 = wblk m c (t.val - 1) := funext fun j => hx j (by have : (j 1).val < 1024 := (j 1).isLt; omega)
    have hld2 := hld _ (k0_off2_inb (grid0.coords t) h3) ho2
    iapply (IdealBody.body_mid (F := Ideal) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6)
      c Set.univ (grid0.coords t) h1 h2 h3 h4 hoff _ _ _ _ _ _ _ _)
    isplitl [H8]; · iexact H8
    isplitl [H9]; · iexact H9
    isplitl [S0]; · iexact S0
    isplitl [S1]; · iexact S1
    isplitl [S2]; · iexact S2
    isplitl [S3]; · iexact S3
    isplitl [S6]; · iexact S6
    rw [hld2]
    iintro ⟨H8, H9, S0, S1, S2, S3, ⟨%y, %hy, S6⟩⟩
    have hnew : Inv m c (t.val + 1) s0 (k0_pay30 (k0_pay6 (H m c) (wblk m c (t.val - 1))) s1)
        (k0_pay8 s2 (k0_pay31 (k0_pay6 (H m c) (wblk m c (t.val - 1)))) (k0_pay32 (k0_pay6 (H m c) (wblk m c (t.val - 1)))))
        (k0_pay9 (grid0.coords t) (iblk m c 8 t) (k0_pay28 (k0_pay6 (H m c) (wblk m c (t.val - 1)))) s3) s4 s5 y := by
      rw [iblk_8]
      intro t' e ht'
      obtain rfl : t' = t.val := by omega
      obtain ⟨b, hb⟩ : ∃ b, t.val = b + 1 := ⟨t.val - 1, by omega⟩
      have hpt := pt_pred t g1
      rw [hb, Nat.add_sub_cancel] at e1 e2 e3 hpt
      subst e0 e1 e2 e3
      refine ⟨rfl, ?_, ?_, ?_, e4, e5, ((cfg0.win 9).fill (cfg0.grid.coords t) d9 (iblk m c 9 t) : Vec Ideal S256x1024 .f32), fun j hj => fill_9 m c t g2 d9 j hj, fun off h e' => ?_⟩
      · rw [hb, Nat.add_sub_cancel]; rfl
      · rw [hb, Nat.add_sub_cancel]; rfl
      · rw [hb, Nat.add_sub_cancel, ← hpt]; rfl
      · have : off = k0_off1 (grid0.coords t) := e'.trans ho1.symm
        subst this
        exact hy
    isplitl [S0 S1 S2 S3 S4 S5 S6 Hp]
    · isplitr [Hp]
      · iexists _, _, _, _, _, _, _
        isplitr; swap
        · isplitl [S0]; · iexact S0
          isplitl [S1]; · iexact S1
          isplitl [S2]; · iexact S2
          isplitl [S3]; · iexact S3
          isplitl [S4]; · iexact S4
          isplitl [S5]; · iexact S5
          iexact S6
        ipureintro
        exact hnew
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [H10]; · iexact H10
    iexact H11
  · skip
    rw [bigSep_W0, bigSep_W0, IdealFrame.defs₀_row]
    simp only [before_0, before_1, before_2, before_3, before_4, before_5, before_6, before_7, before_8, before_9,
      after_0, after_1, after_2, after_3, after_4, after_5, after_6, after_7, after_8, after_9, after_10, after_11, Pipeline.Window.cut_fill, i10, i11]
    rw [Phi_castSucc, Phi_succ, show (dats m 0 c).owesAt () t.succ = (dats m 0 c).owesAt () t.castSucc from rfl]
    unfold Phi
    iintro ⟨⟨⟨%s0, %s1, %s2, %s3, %s4, %s5, %s6, %hinv, S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
    obtain ⟨e0, e1, e2, e3, e4, e5, x10, hx, hld⟩ := hinv 97 (by omega) (by omega)
    have hld2 := hld ![1, 0, 0] inb_S2x1024x1024_S1x1024x1024_1_0_0 rfl
    have hpt : grid0.coords t = pt 97 := by rw [← pt_pred t (by omega), g1]
    have hY : ∀ (r j : Fin 1024), j.val < 672 → k0_pay6 (H m c) x10 (ix3 0 r j) = Yb m c 97 (ix3 0 r j) := fun r j hj => by
      unfold Yb
      rw [pay6_apply, pay6_apply]
      refine Finset.sum_congr rfl fun k _ => ?_
      rw [hx (ix2 k j) (by show 97 * 1024 + j.val < 100000; omega)]
    subst e1 e2 e3 e4 e5
    have r10 : OUT10 m c = k0_pay10 (k0_pay42 (k0_pay36 cols (k0_pay6 (H m c) x10) (foldS m c 97)) (k0_pay39 cols (k0_pay7 (F := Ideal) (grid0.coords t) (iblk m c 8 t)) (k0_pay33 (k0_pay6 (H m c) x10)) (foldC m c 97))) (PLP m c) := by
      unfold OUT10 lastS lastC
      rw [iblk_8, hpt, tail_36 _ _ hY, tail_39 _ _ hY _ (hc c) _ (pt_val 97 (by omega))]
    have r11 : OUT11 m c = k0_pay11 (k0_pay41 (k0_pay36 cols (k0_pay6 (H m c) x10) (foldS m c 97))) (k0_pay43 (k0_pay36 cols (k0_pay6 (H m c) x10) (foldS m c 97)) (k0_pay38 (k0_pay37 cols (k0_pay6 (H m c) x10) (foldT m c 97)))) (PENT m c) := by
      unfold OUT11 lastS lastT
      rw [tail_36 _ _ hY, tail_38 _ _ hY]
    icases H10 with ⟨%d10, H10⟩
    icases H11 with ⟨%d11, H11⟩
    iapply (IdealBody.body_last (F := Ideal) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6)
      c Set.univ (grid0.coords t) h1 h2 h3 h4 _ _ _ _ _ _ _ _ _ _)
    isplitl [H8]; · iexact H8
    isplitl [H10]; · iexact H10
    isplitl [H11]; · iexact H11
    isplitl [S1]; · iexact S1
    isplitl [S2]; · iexact S2
    isplitl [S3]; · iexact S3
    isplitl [S4]; · iexact S4
    isplitl [S5]; · iexact S5
    isplitl [S6]; · iexact S6
    rw [hld2]
    iintro ⟨H8, H10, H11, S1, S2, S3, S4, S5, S6⟩
    rw [r10, r11]
    isplitl [S0 S1 S2 S3 S4 S5 S6 Hp]
    · isplitr [Hp]
      · iexists _, _, _, _, _, _, _
        isplitr; swap
        · isplitl [S0]; · iexact S0
          isplitl [S1]; · iexact S1
          isplitl [S2]; · iexact S2
          isplitl [S3]; · iexact S3
          isplitl [S4]; · iexact S4
          isplitl [S5]; · iexact S5
          iexact S6
        ipureintro
        exact fun t1 e ht1 => absurd ht1 (by omega)
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [H10]; · iexact H10
    iexact H11

/-! ## The results -/

theorem emb_10 (t : Fin cfg0.N) (j : S1024x1.Idx) : ((cfg0.win 10).blk t).view.emb j = j := by
  have e0 : win0_10.index t (0 : Fin 2) = 0 := by rw [(idx_whole t).2.2.2.2.2.2.2.2.2.1]; rfl
  have e1 : win0_10.index t (1 : Fin 2) = 0 := by rw [(idx_whole t).2.2.2.2.2.2.2.2.2.1]; rfl
  funext a; apply Fin.ext
  match a with
  | ⟨0, _⟩ => show win0_10.index t (0 : Fin 2) * 1024 + 1 * (j 0).val = (j 0).val; omega
  | ⟨1, _⟩ => show win0_10.index t (1 : Fin 2) * 1 + 1 * (j 1).val = (j 1).val; omega

theorem flushed_10 (c : Dev nD) (t : Fin cfg0.N) :
    (dats m 0 c).flushed 10 t = ((cfg0.win 10).blk t).view.read (Elt Ideal) (OUT10 m c) := by
  show (cfg0.win 10).cut (grid0.coords t) ((dats m 0 c).after 10 t) = _
  rw [after_10]
  funext j
  show OUT10 m c j = OUT10 m c (((cfg0.win 10).blk t).view.emb j)
  rw [emb_10]

theorem covered_10 (i : S1024x1.Idx) : ∃ t : Fin cfg0.N, (cfg0.win 10).flush t = true ∧ i ∈ ((cfg0.win 10).blk t).view.set :=
  ⟨(⟨98, by decide⟩ : Fin cfg0.N), (flush0_10 _).2 rfl, by
    have h := ((cfg0.win 10).blk (⟨98, by decide⟩ : Fin cfg0.N)).view.emb_mem_set i; rwa [emb_10] at h⟩

theorem final_10 (c : Dev nD) : (dats m 0 c).arrAt 10 cfg0.N = OUT10 m c :=
  (dats m 0 c).arrAt_eq_of_cover 10 (OUT10 m c) (fun t _ => flushed_10 m c t) covered_10

theorem emb_11 (t : Fin cfg0.N) (j : S1024x1.Idx) : ((cfg0.win 11).blk t).view.emb j = j := by
  have e0 : win0_11.index t (0 : Fin 2) = 0 := by rw [(idx_whole t).2.2.2.2.2.2.2.2.2.2]; rfl
  have e1 : win0_11.index t (1 : Fin 2) = 0 := by rw [(idx_whole t).2.2.2.2.2.2.2.2.2.2]; rfl
  funext a; apply Fin.ext
  match a with
  | ⟨0, _⟩ => show win0_11.index t (0 : Fin 2) * 1024 + 1 * (j 0).val = (j 0).val; omega
  | ⟨1, _⟩ => show win0_11.index t (1 : Fin 2) * 1 + 1 * (j 1).val = (j 1).val; omega

theorem flushed_11 (c : Dev nD) (t : Fin cfg0.N) :
    (dats m 0 c).flushed 11 t = ((cfg0.win 11).blk t).view.read (Elt Ideal) (OUT11 m c) := by
  show (cfg0.win 11).cut (grid0.coords t) ((dats m 0 c).after 11 t) = _
  rw [after_11]
  funext j
  show OUT11 m c j = OUT11 m c (((cfg0.win 11).blk t).view.emb j)
  rw [emb_11]

theorem covered_11 (i : S1024x1.Idx) : ∃ t : Fin cfg0.N, (cfg0.win 11).flush t = true ∧ i ∈ ((cfg0.win 11).blk t).view.set :=
  ⟨(⟨98, by decide⟩ : Fin cfg0.N), (flush0_11 _).2 rfl, by
    have h := ((cfg0.win 11).blk (⟨98, by decide⟩ : Fin cfg0.N)).view.emb_mem_set i; rwa [emb_11] at h⟩

theorem final_11 (c : Dev nD) : (dats m 0 c).arrAt 11 cfg0.N = OUT11 m c :=
  (dats m 0 c).arrAt_eq_of_cover 11 (OUT11 m c) (fun t _ => flushed_11 m c t) covered_11

theorem into (c : Dev nD) : Pipeline.ΦA spec0 c ⊢ (dats m 0 c).Φ 0 := by
  show Pipeline.ΦA spec0 c ⊢ Phi m c 0
  unfold Pipeline.ΦA Phi
  rw [IdealFrame.scratch_eq]
  iintro ⟨⟨⟨%s0, S0⟩, ⟨%s1, S1⟩, ⟨%s2, S2⟩, ⟨%s3, S3⟩, ⟨%s4, S4⟩, ⟨%s5, S5⟩, ⟨%s6, S6⟩⟩, Hp⟩
  isplitr [Hp]
  · iexists s0, s1, s2, s3, s4, s5, s6
    isplitr; swap
    · isplitl [S0]; · iexact S0
      isplitl [S1]; · iexact S1
      isplitl [S2]; · iexact S2
      isplitl [S3]; · iexact S3
      isplitl [S4]; · iexact S4
      isplitl [S5]; · iexact S5
      iexact S6
    ipureintro
    exact fun t e _ => absurd e (by omega)
  · iexact Hp

theorem out_of (c : Dev nD) (n : ℕ) : Phi m c n ⊢ Pipeline.ΦA spec0 c := by
  unfold Pipeline.ΦA Phi
  rw [IdealFrame.scratch_eq]
  iintro ⟨⟨%s0, %s1, %s2, %s3, %s4, %s5, %s6, %hinv, S0, S1, S2, S3, S4, S5, S6⟩, Hp⟩
  isplitr [Hp]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  · iexact Hp

set_option backward.isDefEq.respectTransparency.types false in
/-- Every execution terminates with the two results at their functions of the arguments and the arguments as they were. -/
theorem run (hc : ∀ c, CatOK m c) : θ_run defs (onTc (τ := τ) (main (F := Ideal))) ⟨m, fun _ => 0, ρ⟩ (fun r => ∀ c : Dev nD,
      r.2.mem ((c.tc : Thread nD τ).loc main_v7_0) = OUT10 m c
      ∧ r.2.mem ((c.tc : Thread nD τ).loc main_v7_1) = OUT11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_frame_track cfgs (dats m) (0 : Fin 1) launch0 defs₀ Variants.none m ρ main
    (hbody := body_obligation m hc) (hshare := fun c => (dats m 0 c).share_full fun _ => rfl) (howed := fun _ _ => rfl)
    (V := V m) (hmain := hmain m Variants.none) (hA := A_eq m) (hin := into m) (hout := fun c => out_of m c _) (Q' := _) ?_
  rintro r ⟨h, hs⟩
  intro c
  refine ⟨((h c).1 10).trans (final_10 m c), ((h c).1 11).trans (final_11 m c), ?_⟩
  have rest := (h c).2
  exact ⟨((h c).1 0).trans (((dats m 0 c).arrAt_in 0 rfl _).trans ((A_eq m c 0).trans (V_main_arg0 m c))),
    (rest main_arg1 (Pipeline.mem_restRefs_of main_arg1 (by decide) (by decide))).trans (V_main_arg1 m c),
    ((h c).1 2).trans (((dats m 0 c).arrAt_in 2 rfl _).trans ((A_eq m c 2).trans (V_main_arg2 m c))),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c),
    ((h c).1 9).trans (((dats m 0 c).arrAt_in 9 rfl _).trans ((A_eq m c 9).trans (V_main_arg6 m c))),
    (rest main_arg7 (Pipeline.mem_restRefs_of main_arg7 (by decide) (by decide))).trans (V_main_arg7 m c),
    (rest main_arg8 (Pipeline.mem_restRefs_of main_arg8 (by decide) (by decide))).trans (V_main_arg8 m c),
    (rest main_arg9 (Pipeline.mem_restRefs_of main_arg9 (by decide) (by decide))).trans (V_main_arg9 m c)⟩

end Cert.Proof.IdealRun

end
-- ==== Proof.KernelFold.lean ====
/-
The running sums of the idealized program as sums over all the columns of the wide weights: a lane holds every 128th
column, a block 1024 columns, and the last block is cut at the array's end.
-/
module

public import proofs.«01_k».proof.Proof.IdealRun
public import Idealize.ShloMosaic.PureOps.Ideal.Laws

@[expose] public section

set_option maxRecDepth 16384

noncomputable section

namespace Cert.Proof.KernelFold

open Cert.KernelIdeal Cert.KernelIdeal.Gen Cert.Proof.IdealPay Cert.Proof.IdealRun
open Idealize.ShloMosaic Idealize.ShloMosaic.TcCoe Idealize.ShloMosaic.Tactic

/-! ## Sums of lanes -/

theorem sum_lanes (f : Fin 1024 → EReal) : ∑ l : Fin 128, lanes f l = ∑ j : Fin 1024, f j := by
  rw [show (∑ j : Fin 1024, f j) = ∑ p : Fin 8 × Fin 128, f (finProdFinEquiv p) from
    (Equiv.sum_comp (finProdFinEquiv (m := 8) (n := 128)) f).symm, Fintype.sum_prod_type_right]
  refine Finset.sum_congr rfl fun l _ => ?_
  rw [Fin.sum_univ_eight]
  have e : ∀ (a : Fin 8) (i : ℕ) (hi : i < 1024), i = 128 * a.val + l.val → f (finProdFinEquiv (a, l)) = f ⟨i, hi⟩ := by
    intro a i hi h
    exact congrArg f (Fin.ext (by show l.val + 128 * a.val = i; omega))
  rw [e 0 l.val (by omega) (by simp), e 1 (128 + l.val) (by omega) (by simp), e 2 (256 + l.val) (by omega) (by simp), e 3 (384 + l.val) (by omega) (by simp),
    e 4 (512 + l.val) (by omega) (by simp), e 5 (640 + l.val) (by omega) (by simp), e 6 (768 + l.val) (by omega) (by simp), e 7 (896 + l.val) (by omega) (by simp)]
  rfl

/-- A running sum that takes 1024 columns a step is the sum over the columns taken. -/
theorem fold_sum (s : ℕ → Fin 128 → EReal) (G : ℕ → EReal) (h0 : ∀ l, s 0 l = 0)
    (hs : ∀ b, b < 97 → ∀ l, s (b + 1) l = s b l + lanes (fun j => G (b * 1024 + j.val)) l) :
    ∀ b, b ≤ 97 → ∑ l, s b l = ∑ n ∈ Finset.range (b * 1024), G n := by
  intro b
  induction b with
  | zero => intro _; simp [h0]
  | succ b ih =>
    intro hb
    rw [Finset.sum_congr rfl (fun l _ => hs b (by omega) l), Finset.sum_add_distrib, ih (by omega), sum_lanes, Nat.succ_mul, Finset.sum_range_add]
    exact congrArg _ (Fin.sum_univ_eq_sum_range (fun j => G (b * 1024 + j)) 1024)

theorem sum_add_lanes (s : Fin 128 → EReal) (f : Fin 1024 → EReal) : ∑ l, (s l + lanes f l) = ∑ l, s l + ∑ j, f j := by
  rw [Finset.sum_add_distrib, sum_lanes]

/-- The last block: what lies past the array's end adds nothing. -/
theorem sum_tail (G : ℕ → EReal) (f : Fin 1024 → EReal) (hf : ∀ j : Fin 1024, f j = if j.val < 672 then G (97 * 1024 + j.val) else 0) :
    ∑ n ∈ Finset.range (97 * 1024), G n + ∑ j, f j = ∑ n ∈ Finset.range 100000, G n := by
  rw [show (100000 : ℕ) = 97 * 1024 + 672 from rfl, Finset.sum_range_add]
  congr 1
  rw [Finset.sum_congr rfl (fun j _ => hf j), Fin.sum_univ_eq_sum_range (fun j => if j < 672 then G (97 * 1024 + j) else 0) 1024,
    show (1024 : ℕ) = 672 + 352 from rfl, Finset.sum_range_add]
  rw [show ∑ x ∈ Finset.range 352, (if 672 + x < 672 then G (97 * (672 + 352) + (672 + x)) else 0) = 0 from
    Finset.sum_eq_zero fun x _ => if_neg (by omega), add_zero]
  exact Finset.sum_congr rfl fun x hx => if_pos (Finset.mem_range.mp hx)

/-! ## The columns' products -/

variable (m : (ℓ : Loc nD τ sig) → Buf (Elt Ideal) ℓ)

/-- Row `r`'s product with column `n`, zero past the array's end. -/
def Yn (c : Dev nD) (r : Fin 1024) (n : ℕ) : EReal :=
  ∑ k : Fin 256, H m c (ix2 r k) * (if h : n < 100000 then XW m c (ix2 k ⟨n, h⟩) else (0 : EReal))

theorem Yb_apply (c : Dev nD) (b : ℕ) (r j : Fin 1024) : Yb m c b (ix3 0 r j) = Yn m c r (b * 1024 + j.val) := by
  unfold Yb
  rw [pay6_apply]
  rfl

theorem rel_iff (b : ℕ) (hb : b ≤ 97) (w : BitVec 32) (hw : w.toNat < 100000) (j : Fin 1024) :
    (BitVec.ofNat 32 j.val = relWord (pt b) w) ↔ b * 1024 + j.val = w.toNat := by
  have hj := j.isLt
  unfold relWord IntOp.subi Scalar.muli Scalar.subi IntOp.muli IntOp.subi
  rw [pt_val b hb]
  constructor
  · intro h
    have h2 := congrArg BitVec.toNat h
    simp only [BitVec.toNat_sub, BitVec.toNat_mul, BitVec.toNat_ofNat] at h2
    omega
  · intro h
    apply BitVec.eq_of_toNat_eq
    simp only [BitVec.toNat_sub, BitVec.toNat_mul, BitVec.toNat_ofNat]
    omega

/-! ## The three sums -/

theorem sum_lastS (c : Dev nD) (r : Fin 1024) :
    ∑ l : Fin 128, lastS m c (ix2 r l) = ∑ n ∈ Finset.range 100000, Ideal.exp2 (Yn m c r n) := by
  have h := fold_sum (fun b l => foldS m c b (ix2 r l)) (fun n => Ideal.exp2 (Yn m c r n)) (fun l => pay3_apply r l)
    (fun b _ l => (pay30_apply (Yb m c b) (foldS m c b) r l).trans (by simp only [Yb_apply])) 97 le_rfl
  unfold lastS
  rw [Finset.sum_congr rfl (fun l _ => pay36_apply (Yb m c 97) (foldS m c 97) r l), sum_add_lanes, h]
  refine sum_tail (fun n => Ideal.exp2 (Yn m c r n)) _ fun j => ?_
  rw [pay34_apply]
  split
  · rw [Yb_apply]
  · exact Ideal.exp2_bot

theorem sum_lastT (c : Dev nD) (r : Fin 1024) :
    ∑ l : Fin 128, lastT m c (ix2 r l) = ∑ n ∈ Finset.range 100000, Ideal.exp2 (Yn m c r n) * Yn m c r n := by
  have h := fold_sum (fun b l => foldT m c b (ix2 r l)) (fun n => Ideal.exp2 (Yn m c r n) * Yn m c r n) (fun l => pay4_apply r l)
    (fun b _ l => (pay8_apply (Yb m c b) (foldT m c b) r l).trans (by simp only [Yb_apply])) 97 le_rfl
  unfold lastT
  rw [Finset.sum_congr rfl (fun l _ => pay38_apply (Yb m c 97) (foldT m c 97) r l), sum_add_lanes, h]
  refine sum_tail (fun n => Ideal.exp2 (Yn m c r n) * Yn m c r n) _ fun j => ?_
  rw [pay34_apply]
  split
  · rw [Yb_apply]
  · rw [Ideal.exp2_bot, zero_mul]

theorem sum_lastC (c : Dev nD) (hc : CatOK m c) (r : Fin 1024) :
    ∑ l : Fin 128, lastC m c (ix2 r l) = Yn m c r (X9 m c (ix2 r 0)).toNat := by
  have e : ∀ b, b ≤ 97 → ∀ j : Fin 1024, (if BitVec.ofNat 32 j.val = relWord (pt b) (X9 m c (ix2 r 0)) then Yb m c b (ix3 0 r j) else 0)
      = (fun n => if n = (X9 m c (ix2 r 0)).toNat then Yn m c r n else 0) (b * 1024 + j.val) := by
    intro b hb j
    simp only [rel_iff b hb _ (hc r), Yb_apply]
  have h := fold_sum (fun b l => foldC m c b (ix2 r l)) (fun n => if n = (X9 m c (ix2 r 0)).toNat then Yn m c r n else 0) (fun l => pay5_apply r l)
    (fun b hb l => (pay9_apply (X9 m c) (Yb m c b) (foldC m c b) r l (pt b)).trans (by rw [funext (e b (by omega))])) 97 le_rfl
  unfold lastC
  rw [Finset.sum_congr rfl (fun l _ => pay39_apply (X9 m c) (Yb m c 97) (foldC m c 97) r l (pt 97)), sum_add_lanes, h]
  rw [sum_tail (fun n => if n = (X9 m c (ix2 r 0)).toNat then Yn m c r n else 0) _ fun j => ?_]
  · rw [Finset.sum_ite_eq' , if_pos (Finset.mem_range.mpr (hc r))]
  · rw [e 97 le_rfl j]
    have := hc r
    split
    · rfl
    · exact if_neg (by omega)

/-! ## The results at a row -/

theorem OUT10_apply (c : Dev nD) (hc : CatOK m c) (r : Fin 1024) :
    OUT10 m c (ix2 r 0) = PLP m c (ix2 r 0) + (Yn m c r (X9 m c (ix2 r 0)).toNat * ((Real.log 2 : ℝ) : EReal)
      - Ideal.log (∑ n ∈ Finset.range 100000, Ideal.exp2 (Yn m c r n))) := by
  unfold OUT10
  rw [out10_apply, sum_lastC m c hc, sum_lastS]

theorem OUT11_apply (c : Dev nD) (r : Fin 1024) :
    OUT11 m c (ix2 r 0) = PENT m c (ix2 r 0) + (Ideal.log (∑ n ∈ Finset.range 100000, Ideal.exp2 (Yn m c r n))
      - Ideal.div ((∑ n ∈ Finset.range 100000, Ideal.exp2 (Yn m c r n) * Yn m c r n) * ((Real.log 2 : ℝ) : EReal))
          (∑ n ∈ Finset.range 100000, Ideal.exp2 (Yn m c r n))) := by
  unfold OUT11
  rw [out11_apply, sum_lastS, sum_lastT]

end Cert.Proof.KernelFold
-- ==== Proof.KernelEntry.lean ====
/-
What the kernel's region finds in its operands, read from the arguments: two arrays are padded with zeros, five are
reshaped, the others are the arguments themselves.
-/
module

public import proofs.«01_k».proof.Proof.IdealRun
public import Idealize.ShloMosaic.Lib.Claim
public import Idealize.ShloMosaic.Lib.Pointwise

@[expose] public section

set_option maxRecDepth 16384

noncomputable section

namespace Cert.Proof.KernelEntry

open Cert.KernelIdeal Cert.KernelIdeal.Gen Cert.Proof.IdealPay Cert.Proof.IdealRun
open Idealize.ShloMosaic Idealize.ShloMosaic.TcCoe Idealize.ShloMosaic.Tactic

variable (m : (ℓ : Loc nD τ sig) → Buf (Elt Ideal) ℓ) (c : Dev nD)

abbrev A0 : FVec Ideal S1024x128 .f32 := m ((c.tc : Thread nD τ).loc main_arg0)
abbrev A1 : FVec Ideal S1024 .f32 := m ((c.tc : Thread nD τ).loc main_arg1)
abbrev A2 : FVec Ideal S128x256 .f32 := m ((c.tc : Thread nD τ).loc main_arg2)
abbrev A3 : FVec Ideal S256 .f32 := m ((c.tc : Thread nD τ).loc main_arg3)
abbrev A4 : FVec Ideal S256x1000 .f32 := m ((c.tc : Thread nD τ).loc main_arg4)
abbrev A5 : FVec Ideal S1000x256 .f32 := m ((c.tc : Thread nD τ).loc main_arg5)
abbrev A6 : FVec Ideal S256x100000 .f32 := m ((c.tc : Thread nD τ).loc main_arg6)
abbrev A7 : FVec Ideal S256 .f32 := m ((c.tc : Thread nD τ).loc main_arg7)
abbrev A8 : IVec S1024 32 := m ((c.tc : Thread nD τ).loc main_arg8)
abbrev A9 : IVec S1024 32 := m ((c.tc : Thread nD τ).loc main_arg9)

theorem X1_eq : X1 m c = A0 m c := V_main_arg0 m c
theorem X3_eq : X3 m c = A2 m c := V_main_arg2 m c
theorem XW_eq : XW m c = A6 m c := V_main_arg6 m c

theorem fill_eq : (FloatOps.sitofp FTy.f32 0#32 : Ideal .f32) = (0 : EReal) := by
  show (((0#32).toInt : ℝ) : EReal) = 0
  norm_num

theorem X2_apply (r : Fin 1024) : X2 m c (ix2 r 0) = A1 m c (ix1 r) := by
  simp only [X2, V, List.flatten_cons, List.flatten_nil, List.append_nil, List.cons_append, List.nil_append]
  after_results
  pointwise

theorem X4_apply (k : Fin 256) : X4 m c (ix2 0 k) = A3 m c (ix1 k) := by
  simp only [X4, V, List.flatten_cons, List.flatten_nil, List.append_nil, List.cons_append, List.nil_append]
  after_results
  pointwise

theorem X7_apply (k : Fin 256) : X7 m c (ix2 k 0) = A7 m c (ix1 k) := by
  simp only [X7, V, List.flatten_cons, List.flatten_nil, List.append_nil, List.cons_append, List.nil_append]
  after_results
  pointwise

theorem X8_apply (r : Fin 1024) : X8 m c (ix2 r 0) = A8 m c (ix1 r) := by
  simp only [X8, V, List.flatten_cons, List.flatten_nil, List.append_nil, List.cons_append, List.nil_append]
  after_results
  pointwise

theorem X9_apply (r : Fin 1024) : X9 m c (ix2 r 0) = A9 m c (ix1 r) := by
  simp only [X9, V, List.flatten_cons, List.flatten_nil, List.append_nil, List.cons_append, List.nil_append]
  after_results
  pointwise

theorem X5_apply (k : Fin 256) (j : Fin 1024) : X5 m c (ix2 k j) = if h : j.val < 1000 then A4 m c (ix2 k ⟨j.val, h⟩) else (0 : EReal) := by
  simp only [X5, V, List.flatten_cons, List.flatten_nil, List.append_nil, List.cons_append, List.nil_append]
  after_results
  show pad S256x1024 ![0, 0] ![0, 24] ![0, 0] (A4 m c) (sitofp .f32 (constantI S_ 32 0#32) : FVec Ideal S_ .f32) pads_S256x1000_S256x1024_000_0240 h_S_ (ix2 k j) = _
  pointwise
  rw [fill_eq]

theorem X6_apply (j : Fin 1024) (k : Fin 256) : X6 m c (ix2 j k) = if h : j.val < 1000 then A5 m c (ix2 ⟨j.val, h⟩ k) else (0 : EReal) := by
  simp only [X6, V, List.flatten_cons, List.flatten_nil, List.append_nil, List.cons_append, List.nil_append]
  after_results
  show pad S1024x256 ![0, 0] ![24, 0] ![0, 0] (A5 m c) (sitofp .f32 (constantI S_ 32 0#32) : FVec Ideal S_ .f32) pads_S1000x256_S1024x256_0240_000 h_S_ (ix2 j k) = _
  pointwise
  rw [fill_eq]

end Cert.Proof.KernelEntry
-- ==== Proof.ReferenceStages.lean ====
/-
The reference's two results, stage by stage: each stage is named, the generated terms are these stages.
-/
module

public import proofs.«01_k».proof.Proof.Gen.ReferenceIdeal.Run
public import Idealize.ShloMosaic.Lib.Claim
public import Idealize.ShloMosaic.Lib.Pointwise
public import Idealize.ShloMosaic.Lib.ReduceAll
public import Idealize.ShloMosaic.Lib.Routing.Ops
public import Idealize.ShloMosaic.PureOps.Ideal.Laws

@[expose] public section

set_option maxRecDepth 16384

noncomputable section

namespace Cert.Proof.ReferenceStages

open Cert.ReferenceIdeal Cert.ReferenceIdeal.Gen
open Idealize.ShloMosaic Idealize.ShloMosaic.TcCoe Idealize.ShloMosaic.Tactic

/-! ## The stages -/

abbrev bc (z : FVec Ideal S_ .f32) : FVec Ideal S1024 .f32 := broadcastInDim S1024 ![] bcast_S_S1024 z
abbrev col (v : FVec Ideal S1024 .f32) : FVec Ideal S1024x1 .f32 := broadcastInDim S1024x1 ![0] bcast_S1024_S1024x1_0 v
abbrev colI (v : IVec S1024 32) : IVec S1024x1 32 := broadcastInDim S1024x1 ![0] bcast_S1024_S1024x1_0 v
abbrev zero : FVec Ideal S_ .f32 := constant S_ .f32 0x00000000#32
abbrev one : FVec Ideal S_ .f32 := constant S_ .f32 0x3F800000#32

def trunk (a0 : FVec Ideal S1024x128 .f32) (a2 : FVec Ideal S128x256 .f32) (a3 : FVec Ideal S256 .f32) : FVec Ideal S1024x256 .f32 :=
  Host.tanh (addf (Host.dotGeneral dot_S1024x128_S128x256_S1024x256_1_0_0_1_n_n none a0 a2)
    (broadcastInDim S1024x256 ![0, 1] bcast_S1x256_S1024x256_0_1 (broadcastInDim S1x256 ![1] bcast_S256_S1x256_1 a3)))

def rowOf (a8 : IVec S1024 32) : IVec S1024x1 32 :=
  colI (select (cmpi .slt a8 (broadcastInDim S1024 ![] bcast_S_S1024 (constantI S_ 32 0#32)))
    (addi a8 (broadcastInDim S1024 ![] bcast_S_S1024 (constantI S_ 32 1000#32))) a8)

def hidden (t : FVec Ideal S1024x256 .f32) (a5 : FVec Ideal S1000x256 .f32) (a8 : IVec S1024 32) : FVec Ideal S1024x256 .f32 :=
  Host.tanh (addf t (Host.gather gather_S1000x256_S1024x1_S1024x256_1_0_n_n_0_1_1256 a5 (rowOf a8)))

def logits0 (t : FVec Ideal S1024x256 .f32) (a4 : FVec Ideal S256x1000 .f32) : FVec Ideal S1024x1000 .f32 :=
  Host.dotGeneral dot_S1024x256_S256x1000_S1024x1000_1_0_0_1_n_n none t a4

def logits1 (h : FVec Ideal S1024x256 .f32) (a6 : FVec Ideal S256x100000 .f32) : FVec Ideal S1024x100000 .f32 :=
  Host.dotGeneral dot_S1024x256_S256x100000_S1024x100000_1_0_0_1_n_n none h a6

def logitB (h : FVec Ideal S1024x256 .f32) (a7 : FVec Ideal S256 .f32) : FVec Ideal S1024 .f32 :=
  Host.dotGeneral dot_S1024x256_S256_S1024_1_0_0_n_n_n none h a7

def max0 (l : FVec Ideal S1024x1000 .f32) : FVec Ideal S1024x1 .f32 :=
  col (Host.reduce FloatOps.maximumf l (constant S_ .f32 0xFF800000#32) reducesTo_S1024x1000_S1024_d1 h_S_)
def shift0 (l : FVec Ideal S1024x1000 .f32) : FVec Ideal S1024x1000 .f32 :=
  subf l (broadcastInDim S1024x1000 ![0, 1] bcast_S1024x1_S1024x1000_0_1 (max0 l))
def sumE0 (l : FVec Ideal S1024x1000 .f32) : FVec Ideal S1024x1 .f32 :=
  col (Host.reduceAdd (Host.exp (shift0 l)) zero reducesTo_S1024x1000_S1024_d1 h_S_)
def norm0 (l : FVec Ideal S1024x1000 .f32) : FVec Ideal S1024x1 .f32 :=
  addf (max0 l) (Host.log (sumE0 l))
def logp0 (l : FVec Ideal S1024x1000 .f32) : FVec Ideal S1024x1000 .f32 :=
  subf l (broadcastInDim S1024x1000 ![0, 1] bcast_S1024x1_S1024x1000_0_1 (norm0 l))

def max1 (l : FVec Ideal S1024x100000 .f32) : FVec Ideal S1024x1 .f32 :=
  col (Host.reduce FloatOps.maximumf l (constant S_ .f32 0xFF800000#32) reducesTo_S1024x100000_S1024_d1 h_S_)
def shift1 (l : FVec Ideal S1024x100000 .f32) : FVec Ideal S1024x100000 .f32 :=
  subf l (broadcastInDim S1024x100000 ![0, 1] bcast_S1024x1_S1024x100000_0_1 (max1 l))
def sumE1 (l : FVec Ideal S1024x100000 .f32) : FVec Ideal S1024x1 .f32 :=
  col (Host.reduceAdd (Host.exp (shift1 l)) zero reducesTo_S1024x100000_S1024_d1 h_S_)
def norm1 (l : FVec Ideal S1024x100000 .f32) : FVec Ideal S1024x1 .f32 :=
  addf (max1 l) (Host.log (sumE1 l))
def logp1 (l : FVec Ideal S1024x100000 .f32) : FVec Ideal S1024x100000 .f32 :=
  subf l (broadcastInDim S1024x100000 ![0, 1] bcast_S1024x1_S1024x100000_0_1 (norm1 l))

/-- A column number per row, moved up by `n` where negative. -/
def colOf (n : BitVec 32) (a : IVec S1024 32) : IVec S1024x1x1 32 :=
  shapeCast S1024x1x1 (select (cmpi .slt (colI a) (broadcastInDim S1024x1 ![] bcast_S_S1024x1 (constantI S_ 32 0#32)))
    (addi (colI a) (broadcastInDim S1024x1 ![] bcast_S_S1024x1 (constantI S_ 32 n))) (colI a)) shapeCasts_S1024x1_S1024x1x1

/-- Which rows' column numbers are in the range up to `n`. -/
def inside (n : BitVec 32) (i : IVec S1024x1x1 32) : IVec S1024x1 1 :=
  Host.reduce IntOp.andi (andi (cmpi .sge i (broadcastInDim S1024x1x1 ![] bcast_S_S1024x1x1 (constantI S_ 32 0#32)))
    (cmpi .sle i (broadcastInDim S1024x1x1 ![0, 1, 2] bcast_S1x1x1_S1024x1x1_0_1_2 (broadcastInDim S1x1x1 ![2] bcast_S1_S1x1x1_2 (constantI S1 32 n)))))
    (constantI S_ 1 1#1) reducesTo_S1024x1x1_S1024x1_d2 h_S_

abbrev nan : FVec Ideal S1024x1 .f32 := broadcastInDim S1024x1 ![] bcast_S_S1024x1 (constant S_ .f32 0x7FC00000#32)

def take0 (p : FVec Ideal S1024x1000 .f32) (a : IVec S1024 32) : FVec Ideal S1024x1 .f32 :=
  select (inside 999#32 (colOf 1000#32 a)) (Host.gather gather_S1024x1000_S1024x1x1_S1024x1_n_1_0_0_1_2_11 p (colOf 1000#32 a)) nan
def take1 (p : FVec Ideal S1024x100000 .f32) (a : IVec S1024 32) : FVec Ideal S1024x1 .f32 :=
  select (inside 99999#32 (colOf 100000#32 a)) (Host.gather gather_S1024x100000_S1024x1x1_S1024x1_n_1_0_0_1_2_11 p (colOf 100000#32 a)) nan

def ent0 (p : FVec Ideal S1024x1000 .f32) : FVec Ideal S1024x1 .f32 :=
  Host.negf (col (Host.reduceAdd (mulf (Host.exp p) p) zero reducesTo_S1024x1000_S1024_d1 h_S_))
def ent1 (p : FVec Ideal S1024x100000 .f32) : FVec Ideal S1024x1 .f32 :=
  Host.negf (col (Host.reduceAdd (mulf (Host.exp p) p) zero reducesTo_S1024x100000_S1024_d1 h_S_))

/-- The logarithm of one plus the exponential. -/
def softplus (z : FVec Ideal S1024 .f32) : FVec Ideal S1024 .f32 :=
  select (cmpf .une (subf z (bc zero)) (subf z (bc zero))) (addf z (bc zero))
    (addf (maximumf z (bc zero)) (Host.log1p (Host.exp (Host.negf (Host.absf (subf z (bc zero)))))))
def logSig (b : FVec Ideal S1024 .f32) : FVec Ideal S1024 .f32 := Host.negf (softplus (Host.negf b))
def sigm (b : FVec Ideal S1024 .f32) : FVec Ideal S1024 .f32 := Host.divf (bc one) (addf (bc one) (Host.exp (Host.negf b)))
def mix (w p q : FVec Ideal S1024 .f32) : FVec Ideal S1024 .f32 := addf (mulf w p) (mulf (subf (bc one) w) q)

/-- The first result, from the arguments. -/
def logProb (a0 : FVec Ideal S1024x128 .f32) (a1 : FVec Ideal S1024 .f32) (a2 : FVec Ideal S128x256 .f32) (a3 : FVec Ideal S256 .f32)
    (a4 : FVec Ideal S256x1000 .f32) (a5 : FVec Ideal S1000x256 .f32) (a6 : FVec Ideal S256x100000 .f32) (a7 : FVec Ideal S256 .f32)
    (a8 a9 : IVec S1024 32) : FVec Ideal S1024x1 .f32 :=
  addf (addf (take0 (logp0 (logits0 (trunk a0 a2 a3) a4)) a8) (take1 (logp1 (logits1 (hidden (trunk a0 a2 a3) a5 a8) a6)) a9))
    (col (mix a1 (logSig (logitB (hidden (trunk a0 a2 a3) a5 a8) a7)) (logSig (Host.negf (logitB (hidden (trunk a0 a2 a3) a5 a8) a7)))))

/-- The second result, from the arguments. -/
def entropy (a0 : FVec Ideal S1024x128 .f32) (a2 : FVec Ideal S128x256 .f32) (a3 : FVec Ideal S256 .f32)
    (a4 : FVec Ideal S256x1000 .f32) (a5 : FVec Ideal S1000x256 .f32) (a6 : FVec Ideal S256x100000 .f32) (a7 : FVec Ideal S256 .f32)
    (a8 : IVec S1024 32) : FVec Ideal S1024x1 .f32 :=
  addf (addf (ent0 (logp0 (logits0 (trunk a0 a2 a3) a4))) (ent1 (logp1 (logits1 (hidden (trunk a0 a2 a3) a5 a8) a6))))
    (col (Host.negf (mix (sigm (logitB (hidden (trunk a0 a2 a3) a5 a8) a7)) (logSig (logitB (hidden (trunk a0 a2 a3) a5 a8) a7))
      (logSig (Host.negf (logitB (hidden (trunk a0 a2 a3) a5 a8) a7))))))

variable (m : (ℓ : Loc nD τ sig) → Buf (Elt Ideal) ℓ)

theorem out0_eq (c : Dev nD) : Cert.ReferenceIdeal.Value.res_main_v75 m c =
    logProb (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

theorem out1_eq (c : Dev nD) : Cert.ReferenceIdeal.Value.res_main_v78 m c =
    entropy (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.Proof.ReferenceStages
-- ==== Proof.ReferenceValue.lean ====
/-
The stages of the reference, read at a row.
-/
module

public import proofs.«01_k».proof.Proof.ReferenceStages
public import Idealize.ShloMosaic.Lib.Claim
public import Idealize.ShloMosaic.Lib.Pointwise
public import Idealize.ShloMosaic.Lib.ReduceAll
public import Idealize.ShloMosaic.Lib.Routing.Ops
public import Idealize.ShloMosaic.PureOps.Ideal.Laws

@[expose] public section

set_option maxRecDepth 16384

noncomputable section

namespace Cert.Proof.ReferenceValue

open Cert.Proof.ReferenceStages Cert.ReferenceIdeal Cert.ReferenceIdeal.Gen
open Idealize.ShloMosaic Idealize.ShloMosaic.TcCoe Idealize.ShloMosaic.Tactic

/-! ## The stages at a row -/

theorem bot_bits : Ideal.ofBits .f32 0xFF800000#32 = (⊥ : EReal) := by
  simp [Ideal.ofBits, Ideal.ieee]

theorem addLog_apply (a b : FVec Ideal S1024x1 .f32) (i : S1024x1.Idx) : addf a (Host.log b) i = a i + Ideal.log (b i) := rfl

theorem trunk_apply (a0 : FVec Ideal S1024x128 .f32) (a2 : FVec Ideal S128x256 .f32) (a3 : FVec Ideal S256 .f32) (r : Fin 1024) (k : Fin 256) :
    trunk a0 a2 a3 (ix2 r k) = Ideal.tanh ((∑ i : Fin 128, a0 (ix2 r i) * a2 (ix2 i k)) + a3 (ix1 k)) := by
  pointwise [trunk]

theorem logits0_apply (t : FVec Ideal S1024x256 .f32) (a4 : FVec Ideal S256x1000 .f32) (r : Fin 1024) (j : Fin 1000) :
    logits0 t a4 (ix2 r j) = ∑ k : Fin 256, t (ix2 r k) * a4 (ix2 k j) := by
  pointwise [logits0]

theorem logits1_apply (t : FVec Ideal S1024x256 .f32) (a6 : FVec Ideal S256x100000 .f32) (r : Fin 1024) (j : Fin 100000) :
    logits1 t a6 (ix2 r j) = ∑ k : Fin 256, t (ix2 r k) * a6 (ix2 k j) := by
  pointwise [logits1]

theorem logitB_apply (t : FVec Ideal S1024x256 .f32) (a7 : FVec Ideal S256 .f32) (r : Fin 1024) :
    logitB t a7 (ix1 r) = ∑ k : Fin 256, t (ix2 r k) * a7 (ix1 k) := by
  pointwise [logitB]

theorem max0_apply (l : FVec Ideal S1024x1000 .f32) (r : Fin 1024) :
    max0 l (ix2 r 0) = Finset.univ.fold max (⊥ : EReal) (fun j : Fin 1000 => l (ix2 r j)) := by
  pointwise [max0]
  rw [bot_bits]

theorem max1_apply (l : FVec Ideal S1024x100000 .f32) (r : Fin 1024) :
    max1 l (ix2 r 0) = Finset.univ.fold max (⊥ : EReal) (fun j : Fin 100000 => l (ix2 r j)) := by
  pointwise [max1]
  rw [bot_bits]

theorem shift0_apply (l : FVec Ideal S1024x1000 .f32) (r : Fin 1024) (j : Fin 1000) :
    shift0 l (ix2 r j) = l (ix2 r j) - max0 l (ix2 r 0) := by
  pointwise [shift0]

theorem sumE0_apply (l : FVec Ideal S1024x1000 .f32) (r : Fin 1024) :
    sumE0 l (ix2 r 0) = ∑ j : Fin 1000, Ideal.exp (shift0 l (ix2 r j)) := by
  pointwise [sumE0]

theorem norm0_apply (l : FVec Ideal S1024x1000 .f32) (r : Fin 1024) :
    norm0 l (ix2 r 0) = max0 l (ix2 r 0) + Ideal.log (sumE0 l (ix2 r 0)) :=
  addLog_apply _ _ _

theorem logp0_apply (l : FVec Ideal S1024x1000 .f32) (r : Fin 1024) (j : Fin 1000) :
    logp0 l (ix2 r j) = l (ix2 r j) - norm0 l (ix2 r 0) := by
  pointwise [logp0]

theorem shift1_apply (l : FVec Ideal S1024x100000 .f32) (r : Fin 1024) (j : Fin 100000) :
    shift1 l (ix2 r j) = l (ix2 r j) - max1 l (ix2 r 0) := by
  pointwise [shift1]

theorem sumE1_apply (l : FVec Ideal S1024x100000 .f32) (r : Fin 1024) :
    sumE1 l (ix2 r 0) = ∑ j : Fin 100000, Ideal.exp (shift1 l (ix2 r j)) := by
  pointwise [sumE1]

theorem norm1_apply (l : FVec Ideal S1024x100000 .f32) (r : Fin 1024) :
    norm1 l (ix2 r 0) = max1 l (ix2 r 0) + Ideal.log (sumE1 l (ix2 r 0)) :=
  addLog_apply _ _ _

theorem logp1_apply (l : FVec Ideal S1024x100000 .f32) (r : Fin 1024) (j : Fin 100000) :
    logp1 l (ix2 r j) = l (ix2 r j) - norm1 l (ix2 r 0) := by
  pointwise [logp1]

theorem ent0_apply (p : FVec Ideal S1024x1000 .f32) (r : Fin 1024) :
    ent0 p (ix2 r 0) = -∑ j : Fin 1000, Ideal.exp (p (ix2 r j)) * p (ix2 r j) := by
  pointwise [ent0]

theorem ent1_apply (p : FVec Ideal S1024x100000 .f32) (r : Fin 1024) :
    ent1 p (ix2 r 0) = -∑ j : Fin 100000, Ideal.exp (p (ix2 r j)) * p (ix2 r j) := by
  pointwise [ent1]

theorem softplus_apply (z : FVec Ideal S1024 .f32) (r : Fin 1024) :
    softplus z (ix1 r) = max (z (ix1 r)) 0 + Ideal.log (1 + Ideal.exp (-max (z (ix1 r)) (-z (ix1 r)))) := by
  pointwise [softplus]
  rw [if_neg (fun h => h rfl)]
  rfl

theorem logSig_apply (b : FVec Ideal S1024 .f32) (r : Fin 1024) :
    logSig b (ix1 r) = -(max (-b (ix1 r)) 0 + Ideal.log (1 + Ideal.exp (-max (-b (ix1 r)) (- -b (ix1 r))))) := by
  have h : logSig b (ix1 r) = -(softplus (Host.negf b) (ix1 r)) := rfl
  rw [h, softplus_apply]
  rfl

theorem sigm_apply (b : FVec Ideal S1024 .f32) (r : Fin 1024) :
    sigm b (ix1 r) = Ideal.div 1 (1 + Ideal.exp (-b (ix1 r))) := by
  pointwise [sigm]

theorem mix_apply (w p q : FVec Ideal S1024 .f32) (r : Fin 1024) :
    mix w p q (ix1 r) = w (ix1 r) * p (ix1 r) + (1 - w (ix1 r)) * q (ix1 r) := by
  pointwise [mix]

theorem col_apply (v : FVec Ideal S1024 .f32) (r : Fin 1024) : col v (ix2 r 0) = v (ix1 r) := by
  pointwise [col]

/-! ## The lookups -/

theorem not_neg {w : BitVec 32} (h : w.toNat < 2 ^ 31) : IntOp.cmpi .slt w 0#32 = 0#1 := by
  have : ¬ w.slt 0#32 := by
    rw [BitVec.slt_iff_toInt_lt, BitVec.toInt_eq_toNat_of_lt (by omega)]
    simp
  simp [IntOp.cmpi, this]

theorem rowOf_apply (a : IVec S1024 32) (r : Fin 1024) (h : (a (ix1 r)).toNat < 2 ^ 31) : rowOf a (ix2 r 0) = a (ix1 r) := by
  pointwise [rowOf, colI]
  rw [not_neg h]
  rfl

theorem colOf_apply (n : BitVec 32) (a : IVec S1024 32) (r : Fin 1024) (h : (a (ix1 r)).toNat < 2 ^ 31) :
    colOf n a (ix3 r 0 0) = a (ix1 r) := by
  pointwise [colOf, colI]
  rw [not_neg h]
  rfl

theorem inside_apply (n : ℕ) (hn : n < 2 ^ 31) (k : BitVec 32) (a : IVec S1024 32) (h : ∀ r, (a (ix1 r)).toNat ≤ n) (j : S1024x1.Idx) :
    inside (BitVec.ofNat 32 n) (colOf k a) j = 1#1 := by
  unfold inside
  refine Host.reduce_andi_one _ _ _ _ _ rfl fun i => ?_
  have e : colOf k a i = a (ix1 (i 0)) := by
    have hi : i = ix3 (i 0) 0 0 := by
      funext b
      match b with
      | ⟨0, _⟩ => rfl
      | ⟨1, _⟩ => exact Subsingleton.elim (α := Fin 1) _ _
      | ⟨2, _⟩ => exact Subsingleton.elim (α := Fin 1) _ _
    exact (congrArg (colOf k a) hi).trans (colOf_apply k a _ (lt_of_le_of_lt (h _) hn))
  have h1 : IntOp.cmpi .sge (a (ix1 (i 0))) 0#32 = 1#1 := by
    have : BitVec.sle 0#32 (a (ix1 (i 0))) := by
      have hb := h (i 0)
      rw [BitVec.sle_iff_toInt_le, BitVec.toInt_eq_toNat_of_lt (x := a (ix1 (i 0))) (by omega)]
      simp
    simp [IntOp.cmpi, this]
  have h2 : IntOp.cmpi .sle (a (ix1 (i 0))) (BitVec.ofNat 32 n) = 1#1 := by
    have : BitVec.sle (a (ix1 (i 0))) (BitVec.ofNat 32 n) := by
      have hb := h (i 0)
      have hm : (BitVec.ofNat 32 n).toNat = n := by rw [BitVec.toNat_ofNat]; omega
      rw [BitVec.sle_iff_toInt_le, BitVec.toInt_eq_toNat_of_lt (x := a (ix1 (i 0))) (by omega), BitVec.toInt_eq_toNat_of_lt (by omega), hm]
      exact_mod_cast hb
    simp [IntOp.cmpi, this]
  show IntOp.andi (IntOp.cmpi .sge (colOf k a i) 0#32) (IntOp.cmpi .sle (colOf k a i) (BitVec.ofNat 32 n)) = 1#1
  rw [e, h1, h2]
  rfl

/-- Dimension numbers of a lookup along each row of `[R, N]`, one column number a row. -/
abbrev alongDims (R N : ℕ) (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Row `r` of the lookup is the operand at row `r` and the row's column number. -/
theorem along_apply {α : Type} {R N : ℕ} (hN : N < 2 ^ 31)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ 32) (r : Fin R) (h : (idx (ix3 r 0 0)).toNat < N) :
    Host.gather (alongDims R N wf) x idx (ix2 r 0) = x (ix2 r ⟨(idx (ix3 r 0 0)).toNat, h⟩) := by
  have hs : ∀ d : Fin 2, d ∉ (alongDims R N wf).sKept := fun d hd => by
    have := (GatherDims.mem_sKept _ _).mp hd
    match d with
    | ⟨0, _⟩ => exact this.2 (List.mem_singleton.mpr rfl)
    | ⟨1, _⟩ => exact this.1 (List.mem_singleton.mpr rfl)
  refine congrArg x (funext fun a => Fin.ext ?_)
  show (alongDims R N wf).start (ix2 r 0) idx a + (alongDims R N wf).batchCoord (ix2 r 0) a + (alongDims R N wf).offCoord (ix2 r 0) a = _
  rw [GatherDims.offCoord_eq_zero _ _ _ (hs a), Nat.add_zero]
  obtain rfl | rfl : a = 0 ∨ a = 1 := by
    match a with
    | ⟨0, _⟩ => exact Or.inl rfl
    | ⟨1, _⟩ => exact Or.inr rfl
  · rw [GatherDims.start_batching _ _ _ _ (List.mem_singleton.mpr rfl), Nat.zero_add]
    unfold GatherDims.batchCoord
    exact dif_pos (List.mem_singleton.mpr rfl)
  · rw [GatherDims.batchCoord_eq_zero _ _ _ (fun e => absurd (List.mem_singleton.mp e) (Fin.ne_of_val_ne Nat.one_ne_zero)), Nat.add_zero]
    unfold GatherDims.start
    rw [dif_pos (List.mem_singleton.mpr rfl)]
    have hi : (alongDims R N wf).siIdx (ix2 r 0) ⟨List.idxOf (1 : Fin 2) (alongDims R N wf).startIndexMap,
        List.idxOf_lt_length_iff.2 (List.mem_singleton.mpr rfl)⟩ = ix3 r 0 0 := by
      funext b
      match b with
      | ⟨0, _⟩ => rfl
      | ⟨1, _⟩ => rfl
      | ⟨2, _⟩ => rfl
    show min (idx ((alongDims R N wf).siIdx (ix2 r 0) _)).toInt.toNat (N - 1) = (idx (ix3 r 0 0)).toNat
    rw [show (alongDims R N wf).siIdx (ix2 r 0) _ = ix3 r 0 0 from hi, BitVec.toInt_eq_toNat_of_lt (by omega)]
    simp only [Int.toNat_natCast]
    omega

theorem hidden_apply (t : FVec Ideal S1024x256 .f32) (a5 : FVec Ideal S1000x256 .f32) (a8 : IVec S1024 32) (r : Fin 1024) (k : Fin 256)
    (h : (a8 (ix1 r)).toNat < 1000) :
    hidden t a5 a8 (ix2 r k) = Ideal.tanh (t (ix2 r k) + a5 (ix2 ⟨(a8 (ix1 r)).toNat, h⟩ k)) := by
  have e : Host.gather gather_S1000x256_S1024x1_S1024x256_1_0_n_n_0_1_1256 a5 (rowOf a8) (ix2 r k) = a5 (ix2 ⟨(a8 (ix1 r)).toNat, h⟩ k) :=
    Idealize.ShloMosaic.Routing.gather_row _ rfl rfl rfl rfl rfl a5 (rowOf a8) r k ⟨(a8 (ix1 r)).toNat, h⟩ (by
      refine (rowOf_apply a8 r (by omega)).trans ?_
      simp) (by norm_num)
  show Ideal.tanh (t (ix2 r k) + Host.gather gather_S1000x256_S1024x1_S1024x256_1_0_n_n_0_1_1256 a5 (rowOf a8) (ix2 r k)) = _
  rw [e]

theorem take0_apply (p : FVec Ideal S1024x1000 .f32) (a : IVec S1024 32) (h : ∀ r, (a (ix1 r)).toNat < 1000) (r : Fin 1024) :
    take0 p a (ix2 r 0) = p (ix2 r ⟨(a (ix1 r)).toNat, h r⟩) := by
  have hr := h r
  have e := colOf_apply 1000#32 a r (by omega)
  have g := along_apply (by norm_num) gather_S1024x1000_S1024x1x1_S1024x1_n_1_0_0_1_2_11_wf p (colOf 1000#32 a) r (by rw [e]; exact h r)
  show Scalar.select (inside 999#32 (colOf 1000#32 a) (ix2 r 0)) (Host.gather (alongDims 1024 1000 _) p (colOf 1000#32 a) (ix2 r 0)) _ = _
  rw [inside_apply 999 (by norm_num) _ a (fun r => Nat.le_of_lt_succ (h r)), g]
  simp only [e]
  rfl

theorem take1_apply (p : FVec Ideal S1024x100000 .f32) (a : IVec S1024 32) (h : ∀ r, (a (ix1 r)).toNat < 100000) (r : Fin 1024) :
    take1 p a (ix2 r 0) = p (ix2 r ⟨(a (ix1 r)).toNat, h r⟩) := by
  have hr := h r
  have e := colOf_apply 100000#32 a r (by omega)
  have g := along_apply (by norm_num) gather_S1024x100000_S1024x1x1_S1024x1_n_1_0_0_1_2_11_wf p (colOf 100000#32 a) r (by rw [e]; exact h r)
  show Scalar.select (inside 99999#32 (colOf 100000#32 a) (ix2 r 0)) (Host.gather (alongDims 1024 100000 _) p (colOf 100000#32 a) (ix2 r 0)) _ = _
  rw [inside_apply 99999 (by norm_num) _ a (fun r => Nat.le_of_lt_succ (h r)), g]
  simp only [e]
  rfl

end Cert.Proof.ReferenceValue
-- ==== Proof.Equation.lean ====
/-
The two programs' equation on extended reals: what a row of logits makes of its log-probability and its entropy, in the
reference's order of operations and in the kernel's, and the same for a single logit.
-/
module

public import Idealize.ShloMosaic.PureOps.Ideal.Laws

@[expose] public section

noncomputable section

namespace Cert.Proof.Equation

open Idealize.ShloMosaic

/-! ## Sums of reals -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem coe_max (a b : ℝ) : ((max a b : ℝ) : EReal) = max (a : EReal) (b : EReal) := EReal.coe_strictMono.monotone.map_max

/-- Equal to a real number. -/
def IsReal (x : EReal) : Prop := ∃ r : ℝ, x = (r : EReal)

theorem isReal_of_abs {x : EReal} (h : max x (-x) < ⊤) : IsReal x := by
  induction x using EReal.rec with
  | bot => simp at h
  | coe r => exact ⟨r, rfl⟩
  | top => simp at h

theorem isReal_tanh (x : EReal) : IsReal (Ideal.tanh x) := by
  induction x using EReal.rec with
  | bot => exact ⟨-1, by simp⟩
  | coe r => exact ⟨_, Ideal.tanh_coe r⟩
  | top => exact ⟨1, by simp⟩

theorem isReal_dot {ι : Type} [Fintype ι] {x y : ι → EReal} (hx : ∀ i, IsReal (x i)) (hy : ∀ i, IsReal (y i)) : IsReal (∑ i, x i * y i) := by
  choose a ha using hx
  choose b hb using hy
  refine ⟨∑ i, a i * b i, ?_⟩
  rw [← coe_sum]
  exact Finset.sum_congr rfl fun i _ => by rw [ha, hb, EReal.coe_mul]

theorem dot_scaled {ι : Type} [Fintype ι] {x y : ι → EReal} (hx : ∀ i, IsReal (x i)) (hy : ∀ i, IsReal (y i)) (L s : ℝ)
    (h : ∑ i, x i * y i = (L : EReal)) : ∑ i, (x i * (s : EReal)) * y i = ((L * s : ℝ) : EReal) := by
  choose a ha using hx
  choose b hb using hy
  have e : (∑ i, a i * b i) = L := by
    rw [← EReal.coe_eq_coe_iff, ← h, ← coe_sum]
    exact Finset.sum_congr rfl fun i _ => by rw [ha, hb, EReal.coe_mul]
  rw [← e, Finset.sum_mul, ← coe_sum]
  refine Finset.sum_congr rfl fun i _ => ?_
  rw [ha, hb, ← EReal.coe_mul, ← EReal.coe_mul]
  congr 1; ring

/-! ## A row of logits -/

section
variable {n : ℕ} (L : Fin n → ℝ)

/-- The sum of the exponentials. -/
def S : ℝ := ∑ j, Real.exp (L j)
/-- The sum of the exponentials times the logits. -/
def T : ℝ := ∑ j, Real.exp (L j) * L j

theorem S_pos (hn : 0 < n) : 0 < S L :=
  Finset.sum_pos (fun j _ => Real.exp_pos _) ⟨⟨0, hn⟩, Finset.mem_univ _⟩

theorem log_pos {r : ℝ} (h : 0 < r) : Ideal.log (r : EReal) = ((Real.log r : ℝ) : EReal) := by
  rw [Ideal.log_coe, if_neg (not_le.mpr h)]

theorem sum_exp : ∑ j, Ideal.exp (L j : EReal) = (S L : EReal) := by
  simp only [Ideal.exp_coe]; exact coe_sum _ _

theorem sum_exp_mul : ∑ j, Ideal.exp (L j : EReal) * (L j : EReal) = (T L : EReal) := by
  simp only [Ideal.exp_coe, ← EReal.coe_mul]; exact coe_sum _ _

/-- The largest of the logits is a real number. -/
theorem isReal_max (hn : 0 < n) : IsReal (Finset.univ.fold max (⊥ : EReal) (fun j => (L j : EReal))) := by
  have h1 : (⊥ : EReal) < Finset.univ.fold max (⊥ : EReal) (fun j => (L j : EReal)) :=
    (Finset.lt_fold_max _).mpr (Or.inr ⟨⟨0, hn⟩, Finset.mem_univ _, EReal.bot_lt_coe _⟩)
  have h2 : Finset.univ.fold max (⊥ : EReal) (fun j => (L j : EReal)) < ⊤ :=
    (Finset.fold_max_lt _).mpr ⟨bot_lt_top, fun j _ => EReal.coe_lt_top _⟩
  exact ⟨_, (EReal.coe_toReal h2.ne h1.ne').symm⟩

/-- Taking a number off every logit and adding it back leaves the logarithm of the sum of the exponentials. -/
theorem log_shift (hn : 0 < n) {M : EReal} (hM : IsReal M) :
    M + Ideal.log (∑ j, Ideal.exp ((L j : EReal) - M)) = ((Real.log (S L) : ℝ) : EReal) := by
  obtain ⟨x, rfl⟩ := hM
  have e : (∑ j, Real.exp (L j - x)) = Real.exp (-x) * S L := by
    unfold S
    rw [Finset.mul_sum]
    exact Finset.sum_congr rfl fun j _ => by rw [← Real.exp_add]; congr 1; ring
  have h : ∑ j, Ideal.exp ((L j : EReal) - (x : EReal)) = ((Real.exp (-x) * S L : ℝ) : EReal) := by
    rw [← e, ← coe_sum]
    exact Finset.sum_congr rfl fun j _ => by rw [← EReal.coe_sub, Ideal.exp_coe]
  rw [h, log_pos (mul_pos (Real.exp_pos _) (S_pos L hn)), Real.log_mul (Real.exp_pos _).ne' (S_pos L hn).ne', Real.log_exp, ← EReal.coe_add]
  congr 1; ring

/-- The entropy, from the log-probabilities. -/
theorem entropy_eq (hn : 0 < n) :
    -∑ j, Ideal.exp ((L j - Real.log (S L) : ℝ) : EReal) * ((L j - Real.log (S L) : ℝ) : EReal)
      = ((Real.log (S L) - T L / S L : ℝ) : EReal) := by
  have hS := S_pos L hn
  simp only [Ideal.exp_coe, ← EReal.coe_mul]
  rw [coe_sum, ← EReal.coe_neg]
  congr 1
  have e : ∀ j, Real.exp (L j - Real.log (S L)) * (L j - Real.log (S L))
      = (Real.exp (L j) * L j - Real.exp (L j) * Real.log (S L)) / S L := by
    intro j
    rw [Real.exp_sub, Real.exp_log hS]; ring
  rw [Finset.sum_congr rfl fun j _ => e j, ← Finset.sum_div, Finset.sum_sub_distrib, ← Finset.sum_mul]
  show -((T L - S L * Real.log (S L)) / S L) = _
  field_simp
  ring

/-- The entropy, from the two sums. -/
theorem entropy_div (hn : 0 < n) :
    Ideal.log (S L : EReal) - Ideal.div (T L : EReal) (S L : EReal) = ((Real.log (S L) - T L / S L : ℝ) : EReal) := by
  have hS := S_pos L hn
  rw [log_pos hS, Ideal.div_coe hS.ne', ← EReal.coe_mul, ← EReal.coe_sub, mul_one_div]

end

/-! ## Powers of two -/

theorem log_two_ne : Real.log 2 ≠ 0 := (Real.log_pos (by norm_num)).ne'

theorem exp2_scaled (x : ℝ) : Ideal.exp2 ((x * (Real.log 2)⁻¹ : ℝ) : EReal) = Ideal.exp (x : EReal) := by
  rw [Ideal.exp2_coe, Ideal.exp_coe]
  congr 1
  show (2 : ℝ) ^ (x * (Real.log 2)⁻¹) = _
  rw [Real.rpow_def_of_pos (by norm_num)]
  congr 1
  field_simp [log_two_ne]

theorem unscale (x : ℝ) : ((x * (Real.log 2)⁻¹ : ℝ) : EReal) * ((Real.log 2 : ℝ) : EReal) = (x : EReal) := by
  rw [← EReal.coe_mul, mul_assoc, inv_mul_cancel₀ log_two_ne, mul_one]

theorem sum_exp2_mul {n : ℕ} (L : Fin n → ℝ) :
    (∑ j, Ideal.exp2 ((L j * (Real.log 2)⁻¹ : ℝ) : EReal) * ((L j * (Real.log 2)⁻¹ : ℝ) : EReal)) * ((Real.log 2 : ℝ) : EReal)
      = (T L : EReal) := by
  simp only [exp2_scaled, Ideal.exp_coe, ← EReal.coe_mul]
  rw [coe_sum, ← EReal.coe_mul]
  congr 1
  unfold T
  rw [Finset.sum_mul]
  exact Finset.sum_congr rfl fun j _ => by rw [mul_assoc, mul_assoc, inv_mul_cancel₀ log_two_ne, mul_one]

/-! ## A single logit -/

/-- The logarithm of the logistic function. -/
def lsp (b : ℝ) : ℝ := -Real.log (1 + Real.exp (-b))

theorem one_add_exp (b : ℝ) : (1 : EReal) + Ideal.exp (-max (b : EReal) (-(b : EReal))) = ((1 + Real.exp (-|b|) : ℝ) : EReal) := by
  rw [← EReal.coe_neg, ← coe_max, ← EReal.coe_neg, Ideal.exp_coe, ← EReal.coe_one, ← EReal.coe_add]
  rfl

theorem pos_one_add (x : ℝ) : 0 < 1 + Real.exp x := by positivity

theorem lsp_nonneg {b : ℝ} (h : 0 ≤ b) : lsp b = -Real.log (1 + Real.exp (-|b|)) := by
  rw [abs_of_nonneg h]; rfl

theorem lsp_neg {b : ℝ} (h : b < 0) : lsp b = b - Real.log (1 + Real.exp (-|b|)) := by
  have e : 1 + Real.exp (-b) = Real.exp (-b) * (1 + Real.exp b) := by
    rw [mul_add, mul_one, ← Real.exp_add]; simp [add_comm]
  unfold lsp
  rw [e, Real.log_mul (Real.exp_pos _).ne' (pos_one_add _).ne', Real.log_exp, abs_of_neg h, neg_neg]
  ring

theorem lsp_flip (b : ℝ) : lsp (-b) = lsp b - b := by
  have e : 1 + Real.exp (- -b) = Real.exp b * (1 + Real.exp (-b)) := by
    rw [mul_add, mul_one, ← Real.exp_add]; simp [add_comm]
  unfold lsp
  rw [e, Real.log_mul (Real.exp_pos _).ne' (pos_one_add _).ne', Real.log_exp]
  ring

/-- The reference's form. -/
theorem lsp_ref (b : ℝ) :
    -(max (-(b : EReal)) 0 + Ideal.log (1 + Ideal.exp (-max (-(b : EReal)) (- -(b : EReal))))) = ((lsp b : ℝ) : EReal) := by
  rw [show max (-(b : EReal)) (- -(b : EReal)) = max (b : EReal) (-(b : EReal)) by rw [neg_neg, max_comm], one_add_exp, log_pos (pos_one_add _)]
  rw [← EReal.coe_neg, ← EReal.coe_zero, ← coe_max, ← EReal.coe_add, ← EReal.coe_neg]
  congr 1
  rcases le_or_gt 0 b with h | h
  · rw [lsp_nonneg h, max_eq_right (by linarith)]; ring
  · rw [lsp_neg h, max_eq_left (by linarith)]; ring

/-- The kernel's form. -/
theorem lsp_ker (b : ℝ) :
    (if 0 ≤ (b : EReal) then 0 - Ideal.log (1 + Ideal.exp (0 - max (b : EReal) (-(b : EReal))))
      else (b : EReal) - Ideal.log (1 + Ideal.exp (0 - max (b : EReal) (-(b : EReal))))) = ((lsp b : ℝ) : EReal) := by
  simp only [zero_sub]
  rw [one_add_exp, log_pos (pos_one_add _)]
  rcases le_or_gt 0 b with h | h
  · rw [if_pos (by exact_mod_cast h), lsp_nonneg h, EReal.coe_neg]
  · rw [if_neg (by exact_mod_cast not_le.mpr h), lsp_neg h, EReal.coe_sub]

theorem logistic_eq (b : ℝ) : Ideal.div 1 (1 + Ideal.exp (-(b : EReal))) = Ideal.exp ((lsp b : ℝ) : EReal) := by
  rw [← EReal.coe_neg, Ideal.exp_coe, ← EReal.coe_one, ← EReal.coe_add, Ideal.div_coe (pos_one_add _).ne', ← EReal.coe_mul, Ideal.exp_coe]
  congr 1
  unfold lsp
  rw [Real.exp_neg (Real.log _), Real.exp_log (pos_one_add _), one_mul, one_div]

end Cert.Proof.Equation
-- ==== Proof.RowEq.lean ====
/-
The kernel's two results are the reference's, row by row, where the categories are columns of their tables and the
three weight arrays that feed logits hold reals.
-/
module

public import proofs.«01_k».proof.Proof.KernelFold
public import proofs.«01_k».proof.Proof.KernelEntry
public import proofs.«01_k».proof.Proof.ReferenceValue
public import proofs.«01_k».proof.Proof.Equation

@[expose] public section

set_option maxRecDepth 16384

noncomputable section

namespace Cert.Proof.RowEq

open Cert.KernelIdeal Cert.KernelIdeal.Gen Cert.Proof.IdealPay Cert.Proof.IdealRun Cert.Proof.KernelFold Cert.Proof.KernelEntry
open Cert.Proof.ReferenceStages (trunk hidden logits0 logits1 logitB logp0 logp1 ent0 ent1 take0 take1 logSig sigm mix logProb entropy)
open Cert.Proof.ReferenceValue Cert.Proof.Equation
open Idealize.ShloMosaic Idealize.ShloMosaic.TcCoe Idealize.ShloMosaic.Tactic

/-! ## The reference's rows of reals -/

theorem ref_logp0 {l : FVec Ideal ReferenceIdeal.S1024x1000 .f32} {r : Fin 1024} {L : Fin 1000 → ℝ} (h : ∀ j, l (ix2 r j) = (L j : EReal)) (j : Fin 1000) :
    logp0 l (ix2 r j) = ((L j - Real.log (S L) : ℝ) : EReal) := by
  rw [logp0_apply, norm0_apply, sumE0_apply]
  simp only [shift0_apply, max0_apply, h]
  rw [log_shift L (by norm_num) (isReal_max L (by norm_num)), ← EReal.coe_sub]

theorem ref_logp1 {l : FVec Ideal ReferenceIdeal.S1024x100000 .f32} {r : Fin 1024} {L : Fin 100000 → ℝ} (h : ∀ j, l (ix2 r j) = (L j : EReal)) (j : Fin 100000) :
    logp1 l (ix2 r j) = ((L j - Real.log (S L) : ℝ) : EReal) := by
  rw [logp1_apply, norm1_apply, sumE1_apply]
  simp only [shift1_apply, max1_apply, h]
  rw [log_shift L (by norm_num) (isReal_max L (by norm_num)), ← EReal.coe_sub]

theorem ref_ent0 {l : FVec Ideal ReferenceIdeal.S1024x1000 .f32} {r : Fin 1024} {L : Fin 1000 → ℝ} (h : ∀ j, l (ix2 r j) = (L j : EReal)) :
    ent0 (logp0 l) (ix2 r 0) = ((Real.log (S L) - T L / S L : ℝ) : EReal) := by
  rw [ent0_apply]
  simp only [ref_logp0 h]
  exact entropy_eq L (by norm_num)

theorem ref_ent1 {l : FVec Ideal ReferenceIdeal.S1024x100000 .f32} {r : Fin 1024} {L : Fin 100000 → ℝ} (h : ∀ j, l (ix2 r j) = (L j : EReal)) :
    ent1 (logp1 l) (ix2 r 0) = ((Real.log (S L) - T L / S L : ℝ) : EReal) := by
  rw [ent1_apply]
  simp only [ref_logp1 h]
  exact entropy_eq L (by norm_num)

theorem ref_lsp {b : FVec Ideal S1024 .f32} {r : Fin 1024} {B : ℝ} (h : b (ix1 r) = (B : EReal)) : logSig b (ix1 r) = ((lsp B : ℝ) : EReal) := by
  rw [logSig_apply, h]
  exact lsp_ref B

theorem ref_lsn {b : FVec Ideal S1024 .f32} {r : Fin 1024} {B : ℝ} (h : b (ix1 r) = (B : EReal)) :
    logSig (Host.negf b) (ix1 r) = ((lsp B : ℝ) : EReal) - (B : EReal) := by
  have e : (Host.negf b : FVec Ideal S1024 .f32) (ix1 r) = ((-B : ℝ) : EReal) := by
    show -(b (ix1 r)) = _
    rw [h, EReal.coe_neg]
  rw [ref_lsp e, lsp_flip, EReal.coe_sub]

/-! ## Columns of the padded table -/

theorem ofNat_iff (j : ℕ) (hj : j < 1024) (w : BitVec 32) : BitVec.ofNat 32 j = w ↔ j = w.toNat := by
  constructor
  · rintro rfl
    rw [BitVec.toNat_ofNat]; omega
  · intro h
    apply BitVec.eq_of_toNat_eq
    rw [BitVec.toNat_ofNat]; omega

/-- A sum over the padded columns of terms that are zero past the table. -/
theorem sum_pad (f : Fin 1024 → EReal) (g : Fin 1000 → EReal) (h : ∀ (j : Fin 1024) (hj : j.val < 1000), f j = g ⟨j.val, hj⟩)
    (h0 : ∀ j : Fin 1024, ¬ j.val < 1000 → f j = 0) : ∑ j, f j = ∑ j, g j := by
  rw [show ∑ j, f j = _ from Fin.sum_univ_add (a := 1000) (b := 24) f,
    show ∑ i : Fin 24, f (Fin.natAdd 1000 i) = 0 from Finset.sum_eq_zero fun i _ => h0 _ (by show ¬ (1000 + i.val) < 1000; omega), add_zero]
  exact Finset.sum_congr rfl fun j _ => h _ j.isLt

theorem sum_pick (f : Fin 1024 → EReal) (w : BitVec 32) (hw : w.toNat < 1024) :
    (∑ j : Fin 1024, if BitVec.ofNat 32 j.val = w then f j else 0) = f ⟨w.toNat, hw⟩ := by
  rw [Finset.sum_eq_single (⟨w.toNat, hw⟩ : Fin 1024)]
  · rw [if_pos ((ofNat_iff _ hw _).mpr rfl)]
  · intro j _ hj
    exact if_neg fun e => hj (Fin.ext ((ofNat_iff _ j.isLt _).mp e))
  · intro h; exact absurd (Finset.mem_univ _) h

/-! ## The kernel's rows -/

variable (m : (ℓ : Loc nD τ sig) → Buf (Elt Ideal) ℓ) (c : Dev nD)

/-- The trunk and the hidden layer, as the reference names them. -/
abbrev TR : FVec Ideal S1024x256 .f32 := trunk (A0 m c) (A2 m c) (A3 m c)
abbrev HD : FVec Ideal S1024x256 .f32 := hidden (TR m c) (A5 m c) (A8 m c)

/-- What the claim asks of the arguments. -/
structure Good : Prop where
  cat0 : ∀ r, (A8 m c (ix1 r)).toNat < 1000
  cat1 : ∀ r, (A9 m c (ix1 r)).toNat < 100000
  real4 : ∀ k j, IsReal (A4 m c (ix2 k j))
  real6 : ∀ k j, IsReal (A6 m c (ix2 k j))
  real7 : ∀ k, IsReal (A7 m c (ix1 k))

variable {m c}

theorem TR_apply (r : Fin 1024) (k : Fin 256) :
    TR m c (ix2 r k) = Ideal.tanh ((∑ i : Fin 128, A0 m c (ix2 r i) * A2 m c (ix2 i k)) + A3 m c (ix1 k)) := trunk_apply _ _ _ r k

theorem HD_apply (r : Fin 1024) (k : Fin 256) (h : (A8 m c (ix1 r)).toNat < 1000) :
    HD m c (ix2 r k) = Ideal.tanh (TR m c (ix2 r k) + A5 m c (ix2 ⟨(A8 m c (ix1 r)).toNat, h⟩ k)) := hidden_apply _ _ _ r k h

theorem trunk_eq (r : Fin 1024) (k : Fin 256) : k0_pay12 (X1 m c) (X3 m c) (X4 m c) (ix2 r k) = TR m c (ix2 r k) := by
  rw [pay12_apply, TR_apply, X1_eq, X3_eq, X4_apply]

variable (g : Good m c)
include g

theorem catOK : CatOK m c := fun r => by rw [X9_apply]; exact g.cat1 r

theorem hidden_eq (r : Fin 1024) (k : Fin 256) :
    k0_pay21 (k0_pay12 (X1 m c) (X3 m c) (X4 m c)) (k0_pay20 (F := Ideal) (X8 m c)) (X6 m c) (ix2 r k) = HD m c (ix2 r k) := by
  have h8 := g.cat0 r
  rw [pay21_apply, HD_apply _ _ h8, trunk_eq]
  congr 2
  have e : ∀ j : Fin 1024, k0_pay20 (F := Ideal) (X8 m c) (ix2 r j) * X6 m c (ix2 j k)
      = if BitVec.ofNat 32 j.val = A8 m c (ix1 r) then X6 m c (ix2 j k) else 0 := by
    intro j
    rw [pay20_apply, X8_apply]
    split
    · exact one_mul _
    · exact zero_mul _
  rw [Finset.sum_congr rfl fun j _ => e j, sum_pick _ _ (by omega), X6_apply, dif_pos h8]

theorem real_trunk (r : Fin 1024) (k : Fin 256) : IsReal (TR m c (ix2 r k)) := by
  rw [TR_apply]; exact isReal_tanh _

theorem real_hidden (r : Fin 1024) (k : Fin 256) : IsReal (HD m c (ix2 r k)) := by
  rw [HD_apply _ _ (g.cat0 r)]; exact isReal_tanh _

theorem exists_L0 (r : Fin 1024) : ∃ L : Fin 1000 → ℝ, ∀ j, logits0 (TR m c) (A4 m c) (ix2 r j) = (L j : EReal) := by
  have h : ∀ j, IsReal (logits0 (TR m c) (A4 m c) (ix2 r j)) := fun j => by
    rw [logits0_apply]
    exact isReal_dot (fun k => real_trunk g r k) (fun k => g.real4 k j)
  choose L hL using h
  exact ⟨L, hL⟩

theorem exists_L1 (r : Fin 1024) : ∃ L : Fin 100000 → ℝ, ∀ j, logits1 (HD m c) (A6 m c) (ix2 r j) = (L j : EReal) := by
  have h : ∀ j, IsReal (logits1 (HD m c) (A6 m c) (ix2 r j)) := fun j => by
    rw [logits1_apply]
    exact isReal_dot (fun k => real_hidden g r k) (fun k => g.real6 k j)
  choose L hL using h
  exact ⟨L, hL⟩

theorem exists_B (r : Fin 1024) : ∃ B : ℝ, logitB (HD m c) (A7 m c) (ix1 r) = (B : EReal) := by
  rw [logitB_apply]
  exact isReal_dot (fun k => real_hidden g r k) (fun k => g.real7 k)

omit g in
/-- The first stage's masked logits. -/
theorem pay14_eq {r : Fin 1024} {L : Fin 1000 → ℝ} (hL : ∀ j, logits0 (TR m c) (A4 m c) (ix2 r j) = (L j : EReal)) (j : Fin 1024) :
    k0_pay14 (X1 m c) (X3 m c) (X4 m c) (X5 m c) (ix2 r j) = if h : j.val < 1000 then (L ⟨j.val, h⟩ : EReal) else ⊥ := by
  rw [pay14_apply]
  split
  · rename_i h
    rw [← hL, logits0_apply]
    exact Finset.sum_congr rfl fun k _ => by rw [trunk_eq, X5_apply, dif_pos h]
  · rfl

omit g in
theorem pay16_eq {r : Fin 1024} {L : Fin 1000 → ℝ} (hL : ∀ j, logits0 (TR m c) (A4 m c) (ix2 r j) = (L j : EReal)) :
    k0_pay16 (X1 m c) (X3 m c) (X4 m c) (X5 m c) (ix2 r 0) = (S L : EReal) := by
  rw [pay16_apply, ← sum_exp]
  refine sum_pad _ _ (fun j h => ?_) (fun j h => ?_)
  · rw [pay14_eq hL, dif_pos h]
  · rw [pay14_eq hL, dif_neg h]; exact Ideal.exp_bot

theorem lp0_eq {r : Fin 1024} {L : Fin 1000 → ℝ} (hL : ∀ j, logits0 (TR m c) (A4 m c) (ix2 r j) = (L j : EReal)) :
    k0_pay18 (X1 m c) (X3 m c) (X4 m c) (X8 m c) (X5 m c) (ix2 r 0)
      = ((L ⟨(A8 m c (ix1 r)).toNat, g.cat0 r⟩ - Real.log (S L) : ℝ) : EReal) := by
  have h8 := g.cat0 r
  rw [pay18_apply, pay16_eq hL, log_pos (S_pos L (by norm_num)), X8_apply, sum_pick _ _ (by omega), pay14_eq hL, dif_pos h8, ← EReal.coe_sub]

omit g in
theorem ent0_eq {r : Fin 1024} {L : Fin 1000 → ℝ} (hL : ∀ j, logits0 (TR m c) (A4 m c) (ix2 r j) = (L j : EReal)) :
    k0_pay19 (X1 m c) (X3 m c) (X4 m c) (X5 m c) (ix2 r 0) = ((Real.log (S L) - T L / S L : ℝ) : EReal) := by
  rw [pay19_apply, pay16_eq hL, ← entropy_div L (by norm_num), ← sum_exp_mul]
  congr 2
  refine sum_pad _ _ (fun j h => ?_) (fun j h => ?_)
  · rw [pay14_eq hL, dif_pos h]
  · rw [pay14_eq hL, dif_neg h, Ideal.exp_bot, zero_mul]

theorem bern_eq {r : Fin 1024} {B : ℝ} (hB : logitB (HD m c) (A7 m c) (ix1 r) = (B : EReal)) :
    k0_pay23 (k0_pay12 (X1 m c) (X3 m c) (X4 m c)) (k0_pay20 (F := Ideal) (X8 m c)) (X6 m c) (X7 m c) (ix2 r 0) = (B : EReal) := by
  rw [pay23_apply, ← hB, logitB_apply]
  exact Finset.sum_congr rfl fun k _ => by rw [hidden_eq g, X7_apply]

theorem lsp_eq {r : Fin 1024} {B : ℝ} (hB : logitB (HD m c) (A7 m c) (ix1 r) = (B : EReal)) :
    k0_pay24 (k0_pay12 (X1 m c) (X3 m c) (X4 m c)) (k0_pay20 (F := Ideal) (X8 m c)) (X6 m c) (X7 m c) (ix2 r 0) = ((lsp B : ℝ) : EReal) := by
  rw [pay24_apply, bern_eq g hB]
  exact lsp_ker B

theorem Yn_eq {r : Fin 1024} {L : Fin 100000 → ℝ} (hL : ∀ j, logits1 (HD m c) (A6 m c) (ix2 r j) = (L j : EReal)) (j : Fin 100000) :
    Yn m c r j.val = ((L j * (Real.log 2)⁻¹ : ℝ) : EReal) := by
  have h := (logits1_apply (HD m c) (A6 m c) r j).symm.trans (hL j)
  rw [← dot_scaled (fun k => real_hidden g r k) (fun k => g.real6 k j) (L j) _ h]
  unfold Yn H
  refine Finset.sum_congr rfl fun k _ => ?_
  rw [pay22_apply, hidden_eq g, dif_pos j.isLt, XW_eq]

theorem sumS_eq {r : Fin 1024} {L : Fin 100000 → ℝ} (hL : ∀ j, logits1 (HD m c) (A6 m c) (ix2 r j) = (L j : EReal)) :
    ∑ n ∈ Finset.range 100000, Ideal.exp2 (Yn m c r n) = (S L : EReal) := by
  rw [Finset.sum_range, ← sum_exp]
  exact Finset.sum_congr rfl fun j _ => by rw [Yn_eq g hL, exp2_scaled]

theorem sumT_eq {r : Fin 1024} {L : Fin 100000 → ℝ} (hL : ∀ j, logits1 (HD m c) (A6 m c) (ix2 r j) = (L j : EReal)) :
    (∑ n ∈ Finset.range 100000, Ideal.exp2 (Yn m c r n) * Yn m c r n) * ((Real.log 2 : ℝ) : EReal) = (T L : EReal) := by
  have e : ∑ n ∈ Finset.range 100000, Ideal.exp2 (Yn m c r n) * Yn m c r n
      = ∑ j : Fin 100000, Ideal.exp2 ((L j * (Real.log 2)⁻¹ : ℝ) : EReal) * ((L j * (Real.log 2)⁻¹ : ℝ) : EReal) := by
    rw [Finset.sum_range]
    exact Finset.sum_congr rfl fun j _ => by rw [Yn_eq g hL]
  rw [e]
  exact sum_exp2_mul L

/-! ## The results -/

theorem row0 (r : Fin 1024) : OUT10 m c (ix2 r 0)
    = logProb (A0 m c) (A1 m c) (A2 m c) (A3 m c) (A4 m c) (A5 m c) (A6 m c) (A7 m c) (A8 m c) (A9 m c) (ix2 r 0) := by
  obtain ⟨L0, h0⟩ := exists_L0 g r
  obtain ⟨L1, h1⟩ := exists_L1 g r
  obtain ⟨B, hB⟩ := exists_B g r
  have e1 : Yn m c r (X9 m c (ix2 r 0)).toNat * ((Real.log 2 : ℝ) : EReal) = (L1 ⟨(A9 m c (ix1 r)).toNat, g.cat1 r⟩ : EReal) := by
    rw [X9_apply, ← unscale (L1 _), ← Yn_eq g h1]
  have er : logProb (A0 m c) (A1 m c) (A2 m c) (A3 m c) (A4 m c) (A5 m c) (A6 m c) (A7 m c) (A8 m c) (A9 m c) (ix2 r 0)
      = (take0 (logp0 (logits0 (TR m c) (A4 m c))) (A8 m c) (ix2 r 0) + take1 (logp1 (logits1 (HD m c) (A6 m c))) (A9 m c) (ix2 r 0))
        + ReferenceStages.col (mix (A1 m c) (logSig (logitB (HD m c) (A7 m c))) (logSig (Host.negf (logitB (HD m c) (A7 m c))))) (ix2 r 0) := rfl
  rw [er, take0_apply _ _ g.cat0, take1_apply _ _ g.cat1, ref_logp0 h0, ref_logp1 h1, col_apply, mix_apply, ref_lsp hB, ref_lsn hB]
  rw [OUT10_apply m c (catOK g), e1, sumS_eq g h1, log_pos (S_pos L1 (by norm_num)), ← EReal.coe_sub]
  unfold PLP
  rw [pay1_apply, lp0_eq g h0, pay26_apply, lsp_eq g hB, bern_eq g hB, X2_apply]
  exact add_right_comm _ _ _

theorem row1 (r : Fin 1024) : OUT11 m c (ix2 r 0)
    = entropy (A0 m c) (A2 m c) (A3 m c) (A4 m c) (A5 m c) (A6 m c) (A7 m c) (A8 m c) (ix2 r 0) := by
  obtain ⟨L0, h0⟩ := exists_L0 g r
  obtain ⟨L1, h1⟩ := exists_L1 g r
  obtain ⟨B, hB⟩ := exists_B g r
  have er : entropy (A0 m c) (A2 m c) (A3 m c) (A4 m c) (A5 m c) (A6 m c) (A7 m c) (A8 m c) (ix2 r 0)
      = (ent0 (logp0 (logits0 (TR m c) (A4 m c))) (ix2 r 0) + ent1 (logp1 (logits1 (HD m c) (A6 m c))) (ix2 r 0))
        + ReferenceStages.col (Host.negf (mix (sigm (logitB (HD m c) (A7 m c))) (logSig (logitB (HD m c) (A7 m c)))
            (logSig (Host.negf (logitB (HD m c) (A7 m c)))))) (ix2 r 0) := rfl
  have en : ∀ v : FVec Ideal S1024 .f32, (Host.negf v : FVec Ideal S1024 .f32) (ix1 r) = -(v (ix1 r)) := fun _ => rfl
  rw [er, ref_ent0 h0, ref_ent1 h1, col_apply, en, mix_apply, sigm_apply, ref_lsp hB, ref_lsn hB, hB, logistic_eq]
  rw [OUT11_apply m c, sumS_eq g h1, sumT_eq g h1, entropy_div L1 (by norm_num)]
  unfold PENT
  rw [pay2_apply, ent0_eq h0, pay27_apply, lsp_eq g hB, bern_eq g hB, zero_sub]
  exact add_right_comm _ _ _

theorem out0 : OUT10 m c = logProb (A0 m c) (A1 m c) (A2 m c) (A3 m c) (A4 m c) (A5 m c) (A6 m c) (A7 m c) (A8 m c) (A9 m c) := by
  funext i
  have hi : i = ix2 (i 0) 0 := by
    funext b
    match b with
    | ⟨0, _⟩ => rfl
    | ⟨1, _⟩ => exact Subsingleton.elim (α := Fin 1) _ _
  rw [hi]
  exact row0 g (i 0)

theorem out1 : OUT11 m c = entropy (A0 m c) (A2 m c) (A3 m c) (A4 m c) (A5 m c) (A6 m c) (A7 m c) (A8 m c) := by
  funext i
  have hi : i = ix2 (i 0) 0 := by
    funext b
    match b with
    | ⟨0, _⟩ => rfl
    | ⟨1, _⟩ => exact Subsingleton.elim (α := Fin 1) _ _
  rw [hi]
  exact row1 g (i 0)

end Cert.Proof.RowEq
-- ==== Proof.Algebraic.lean ====
/-
The value claim: what the precondition says of the arguments, then both programs' runs and the equation of their
results.
-/
module

public import proofs.«01_k».proof.Defs
public import proofs.«01_k».proof.Proof.RowEq
public import proofs.«01_k».proof.Proof.Gen.Pre_in_range
public import Idealize.ShloMosaic.Lib.ReduceAll

@[expose] public section

set_option maxRecDepth 16384

noncomputable section

namespace Cert.Proof.Algebraic

open Cert.Proof.KernelEntry Cert.Proof.RowEq Cert.Proof.Equation Cert.Proof.IdealRun
open Idealize.ShloMosaic Idealize.ShloMosaic.TcCoe Idealize.ShloMosaic.Tactic Idealize.SL.Sem

/-! ## The precondition read back -/

theorem lt_of_range {w : BitVec 32} {n : ℕ} (hn : n < 2 ^ 31)
    (h : IntOp.andi (IntOp.cmpi .sge w 0#32) (IntOp.cmpi .slt w (BitVec.ofNat 32 n)) = 1#1) : w.toNat < n := by
  obtain ⟨h1, h2⟩ := IntOp.andi_eq_one.1 h
  have b1 : BitVec.sle 0#32 w = true := by
    by_contra hb
    rw [Bool.not_eq_true] at hb
    simp [IntOp.cmpi, hb] at h1
  have b2 : BitVec.slt w (BitVec.ofNat 32 n) = true := by
    by_contra hb
    rw [Bool.not_eq_true] at hb
    simp [IntOp.cmpi, hb] at h2
  have hm : (BitVec.ofNat 32 n).toNat = n := by rw [BitVec.toNat_ofNat]; omega
  rw [BitVec.sle_iff_toInt_le] at b1
  rw [BitVec.slt_iff_toInt_lt, BitVec.toInt_eq_toNat_of_lt (x := BitVec.ofNat 32 n) (by omega), hm] at b2
  have h0 : (0#32 : BitVec 32).toInt = 0 := by simp
  rw [h0] at b1
  have := BitVec.toInt_eq_toNat_cond w
  split at this <;> omega

theorem top_bits : Ideal.ofBits .f32 0x7F800000#32 = (⊤ : EReal) := by
  simp [Ideal.ofBits, Ideal.ieee]

theorem real_of_lt {x : EReal} (h : FloatOps.cmpf (F := Ideal) (φ := .f32) .olt (max x (-x)) (Ideal.ofBits .f32 0x7F800000#32) = 1#1) : IsReal x := by
  rw [top_bits] at h
  refine isReal_of_abs ?_
  by_contra hb
  have : FloatOps.cmpf (F := Ideal) (φ := .f32) .olt (max x (-x)) (⊤ : EReal) = 0#1 := by
    simp [Ideal.cmpf_def, Ideal.cmp, hb]
  rw [this] at h
  exact absurd h (by decide)

instance : Subsingleton (Cert.Pre_in_range.S_ : Shape).Idx := ⟨fun a b => funext fun d => d.elim0⟩

theorem good (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) : Good m c := by
  have e := congrFun (h c) (fun d => d.elim0)
  obtain ⟨e, e7⟩ := IntOp.andi_eq_one.1 e
  obtain ⟨e, e6⟩ := IntOp.andi_eq_one.1 e
  obtain ⟨e, e4⟩ := IntOp.andi_eq_one.1 e
  obtain ⟨e8, e9⟩ := IntOp.andi_eq_one.1 e
  exact {
    cat0 := fun r => lt_of_range (n := 1000) (by norm_num) (Host.reduce_andi_all _ _ _ _ _ e8 (ix1 r))
    cat1 := fun r => lt_of_range (n := 100000) (by norm_num) (Host.reduce_andi_all _ _ _ _ _ e9 (ix1 r))
    real4 := fun k j => real_of_lt (Host.reduce_andi_all _ _ _ _ _ e4 (ix2 k j))
    real6 := fun k j => real_of_lt (Host.reduce_andi_all _ _ _ _ _ e6 (ix2 k j))
    real7 := fun k => real_of_lt (Host.reduce_andi_all _ _ _ _ _ e7 (ix1 k)) }

/-! ## The claim -/

theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp ha
  refine ⟨fun c => OUT10 m c, fun c => OUT11 m c, IdealRun.run m g fun c => catOK (good m hp c), ?_⟩
  refine (θ_run _ _ _).mono (fun _ h c => ?_) (Cert.ReferenceIdeal.Value.run (F := Ideal) m' g')
  obtain ⟨h0, h1, hr⟩ := h c
  obtain ⟨a0, a1, a2, a3, a4, a5, a6, a7, a8, a9⟩ := ha c
  refine ⟨h0.trans ?_, h1.trans ?_, hr⟩
  · rw [ReferenceStages.out0_eq, a0, a1, a2, a3, a4, a5, a6, a7, a8, a9]
    exact (out0 (good m hp c)).symm
  · rw [ReferenceStages.out1_eq, a0, a2, a3, a4, a5, a6, a7, a8]
    exact (out1 (good m hp c)).symm

end Cert.Proof.Algebraic
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_in_range.Gen.facts,
    Frames.kernel, Frames.kernelIdeal, fun m g _ => Frames.kernelIdeal m g trivial, Frames.referenceIdeal, fun m g _ => Frames.referenceIdeal m g trivial,
    Frames.preserves, Algebraic.algebraic⟩

end Cert.Proof

end
